-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_ok [hPre_scales_ok : Cert.Pre_scales_ok.Facts] (m : (ℓ : Loc Cert.KernelIdeal.nD Cert.KernelIdeal.τ Cert.KernelIdeal.sig) → Buf (Elt Ideal) ℓ) : Prop :=
  ∀ c : Dev Cert.KernelIdeal.nD,
    (Cert.Pre_scales_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_ok [hPre_scales_ok : Cert.Pre_scales_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_project_ok [hPre_project_ok : Cert.Pre_project_ok.Facts] (m : (ℓ : Loc Cert.ProjIdeal.nD Cert.ProjIdeal.τ Cert.ProjIdeal.sig) → Buf (Elt Ideal) ℓ) : Prop :=
  ∀ c : Dev Cert.ProjIdeal.nD,
    (Cert.Pre_project_ok.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11)) (m ((c.tc : Thread Cert.ProjIdeal.nD Cert.ProjIdeal.τ).loc Cert.ProjIdeal.main_arg12))) = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_project_ok [hPre_project_ok : Cert.Pre_project_ok.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_project_ok.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8)) (m ((c.tc : Thread Cert.ProjReferenceIdeal.nD Cert.ProjReferenceIdeal.τ).loc Cert.ProjReferenceIdeal.main_arg9)) (m ((c.tc : Thread Cert.ProjReferenceIdeal.nD Cert.ProjReferenceIdeal.τ).loc Cert.ProjReferenceIdeal.main_arg10)) (m ((c.tc : Thread Cert.ProjReferenceIdeal.nD Cert.ProjReferenceIdeal.τ).loc Cert.ProjReferenceIdeal.main_arg11)) (m ((c.tc : Thread Cert.ProjReferenceIdeal.nD Cert.ProjReferenceIdeal.τ).loc Cert.ProjReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scales_ok [hKernelIdeal : Cert.KernelIdeal.Facts] [hPre_scales_ok : Cert.Pre_scales_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scales_ok [hReferenceIdeal : Cert.ReferenceIdeal.Facts] [hPre_scales_ok : Cert.Pre_scales_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10)
      ∧ r.2.mem ((c.tc : Thread Cert.Proj.nD Cert.Proj.τ).loc Cert.Proj.main_arg11) = m ((c.tc : Thread Cert.Proj.nD Cert.Proj.τ).loc Cert.Proj.main_arg11)
      ∧ r.2.mem ((c.tc : Thread Cert.Proj.nD Cert.Proj.τ).loc Cert.Proj.main_arg12) = m ((c.tc : Thread Cert.Proj.nD Cert.Proj.τ).loc Cert.Proj.main_arg12))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
      ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12))
      ∧ r.2.sem = fun _ => 0)

def quiescent_ProjIdeal_pre_project_ok [hProjIdeal : Cert.ProjIdeal.Facts] [hPre_project_ok : Cert.Pre_project_ok.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_project_ok m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
      ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9)
      ∧ r.2.mem ((c.tc : Thread Cert.ProjReferenceIdeal.nD Cert.ProjReferenceIdeal.τ).loc Cert.ProjReferenceIdeal.main_arg10) = m ((c.tc : Thread Cert.ProjReferenceIdeal.nD Cert.ProjReferenceIdeal.τ).loc Cert.ProjReferenceIdeal.main_arg10)
      ∧ r.2.mem ((c.tc : Thread Cert.ProjReferenceIdeal.nD Cert.ProjReferenceIdeal.τ).loc Cert.ProjReferenceIdeal.main_arg11) = m ((c.tc : Thread Cert.ProjReferenceIdeal.nD Cert.ProjReferenceIdeal.τ).loc Cert.ProjReferenceIdeal.main_arg11)
      ∧ r.2.mem ((c.tc : Thread Cert.ProjReferenceIdeal.nD Cert.ProjReferenceIdeal.τ).loc Cert.ProjReferenceIdeal.main_arg12) = m ((c.tc : Thread Cert.ProjReferenceIdeal.nD Cert.ProjReferenceIdeal.τ).loc Cert.ProjReferenceIdeal.main_arg12))
      ∧ r.2.sem = fun _ => 0)

def quiescent_ProjReferenceIdeal_pre_project_ok [hProjReferenceIdeal : Cert.ProjReferenceIdeal.Facts] [hPre_project_ok : Cert.Pre_project_ok.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_project_ok m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9)
      ∧ r.2.mem ((c.tc : Thread Cert.ProjReferenceIdeal.nD Cert.ProjReferenceIdeal.τ).loc Cert.ProjReferenceIdeal.main_arg10) = m ((c.tc : Thread Cert.ProjReferenceIdeal.nD Cert.ProjReferenceIdeal.τ).loc Cert.ProjReferenceIdeal.main_arg10)
      ∧ r.2.mem ((c.tc : Thread Cert.ProjReferenceIdeal.nD Cert.ProjReferenceIdeal.τ).loc Cert.ProjReferenceIdeal.main_arg11) = m ((c.tc : Thread Cert.ProjReferenceIdeal.nD Cert.ProjReferenceIdeal.τ).loc Cert.ProjReferenceIdeal.main_arg11)
      ∧ r.2.mem ((c.tc : Thread Cert.ProjReferenceIdeal.nD Cert.ProjReferenceIdeal.τ).loc Cert.ProjReferenceIdeal.main_arg12) = m ((c.tc : Thread Cert.ProjReferenceIdeal.nD Cert.ProjReferenceIdeal.τ).loc Cert.ProjReferenceIdeal.main_arg12))
      ∧ r.2.sem = fun _ => 0)

def preserves_Kernel_KernelIdeal : Prop :=
  True

def algebraic_KernelIdeal_ReferenceIdeal_pre_scales_ok [hKernelIdeal : Cert.KernelIdeal.Facts] [hReferenceIdeal : Cert.ReferenceIdeal.Facts] [hPre_scales_ok : Cert.Pre_scales_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Proj_ProjIdeal : Prop :=
  True

def algebraic_ProjIdeal_ProjReferenceIdeal_pre_project_ok [hProjIdeal : Cert.ProjIdeal.Facts] [hProjReferenceIdeal : Cert.ProjReferenceIdeal.Facts] [hPre_project_ok : Cert.Pre_project_ok.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal_project_ok m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)
      ∧ m' ((c.tc : Thread Cert.ProjReferenceIdeal.nD Cert.ProjReferenceIdeal.τ).loc Cert.ProjReferenceIdeal.main_arg8) = m ((c.tc : Thread Cert.ProjIdeal.nD Cert.ProjIdeal.τ).loc Cert.ProjIdeal.main_arg8)
      ∧ m' ((c.tc : Thread Cert.ProjReferenceIdeal.nD Cert.ProjReferenceIdeal.τ).loc Cert.ProjReferenceIdeal.main_arg9) = m ((c.tc : Thread Cert.ProjIdeal.nD Cert.ProjIdeal.τ).loc Cert.ProjIdeal.main_arg9)
      ∧ m' ((c.tc : Thread Cert.ProjReferenceIdeal.nD Cert.ProjReferenceIdeal.τ).loc Cert.ProjReferenceIdeal.main_arg10) = m ((c.tc : Thread Cert.ProjIdeal.nD Cert.ProjIdeal.τ).loc Cert.ProjIdeal.main_arg10)
      ∧ m' ((c.tc : Thread Cert.ProjReferenceIdeal.nD Cert.ProjReferenceIdeal.τ).loc Cert.ProjReferenceIdeal.main_arg11) = m ((c.tc : Thread Cert.ProjIdeal.nD Cert.ProjIdeal.τ).loc Cert.ProjIdeal.main_arg11)
      ∧ m' ((c.tc : Thread Cert.ProjReferenceIdeal.nD Cert.ProjReferenceIdeal.τ).loc Cert.ProjReferenceIdeal.main_arg12) = m ((c.tc : Thread Cert.ProjIdeal.nD Cert.ProjIdeal.τ).loc Cert.ProjIdeal.main_arg12)) →
    ∃ (v0 : (c : Dev Cert.ProjIdeal.nD) → Buf (Elt Ideal) ((c.tc : Thread Cert.ProjIdeal.nD Cert.ProjIdeal.τ).loc Cert.ProjIdeal.main_v10)) (v1 : (c : Dev Cert.ProjIdeal.nD) → Buf (Elt Ideal) ((c.tc : Thread Cert.ProjIdeal.nD Cert.ProjIdeal.τ).loc Cert.ProjIdeal.main_v11)) (v2 : (c : Dev Cert.ProjIdeal.nD) → Buf (Elt Ideal) ((c.tc : Thread Cert.ProjIdeal.nD Cert.ProjIdeal.τ).loc Cert.ProjIdeal.main_v12)) (v3 : (c : Dev Cert.ProjIdeal.nD) → Buf (Elt Ideal) ((c.tc : Thread Cert.ProjIdeal.nD Cert.ProjIdeal.τ).loc Cert.ProjIdeal.main_v13)) (v4 : (c : Dev Cert.ProjIdeal.nD) → Buf (Elt Ideal) ((c.tc : Thread Cert.ProjIdeal.nD Cert.ProjIdeal.τ).loc Cert.ProjIdeal.main_v15)) (v5 : (c : Dev Cert.ProjIdeal.nD) → Buf (Elt Ideal) ((c.tc : Thread Cert.ProjIdeal.nD Cert.ProjIdeal.τ).loc Cert.ProjIdeal.main_v17)) (v6 : (c : Dev Cert.ProjIdeal.nD) → Buf (Elt Ideal) ((c.tc : Thread Cert.ProjIdeal.nD Cert.ProjIdeal.τ).loc Cert.ProjIdeal.main_v19)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v10) = v0 c
          ∧ r.2.mem ((c.tc : Thread Cert.ProjIdeal.nD Cert.ProjIdeal.τ).loc Cert.ProjIdeal.main_v11) = v1 c
          ∧ r.2.mem ((c.tc : Thread Cert.ProjIdeal.nD Cert.ProjIdeal.τ).loc Cert.ProjIdeal.main_v12) = v2 c
          ∧ r.2.mem ((c.tc : Thread Cert.ProjIdeal.nD Cert.ProjIdeal.τ).loc Cert.ProjIdeal.main_v13) = v3 c
          ∧ r.2.mem ((c.tc : Thread Cert.ProjIdeal.nD Cert.ProjIdeal.τ).loc Cert.ProjIdeal.main_v15) = v4 c
          ∧ r.2.mem ((c.tc : Thread Cert.ProjIdeal.nD Cert.ProjIdeal.τ).loc Cert.ProjIdeal.main_v17) = v5 c
          ∧ r.2.mem ((c.tc : Thread Cert.ProjIdeal.nD Cert.ProjIdeal.τ).loc Cert.ProjIdeal.main_v19) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
          ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
          ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v0_0) = v0 c
          ∧ r.2.mem ((c.tc : Thread Cert.ProjReferenceIdeal.nD Cert.ProjReferenceIdeal.τ).loc Cert.ProjReferenceIdeal.main_v0_1) = v1 c
          ∧ r.2.mem ((c.tc : Thread Cert.ProjReferenceIdeal.nD Cert.ProjReferenceIdeal.τ).loc Cert.ProjReferenceIdeal.main_v0_2) = v2 c
          ∧ r.2.mem ((c.tc : Thread Cert.ProjReferenceIdeal.nD Cert.ProjReferenceIdeal.τ).loc Cert.ProjReferenceIdeal.main_v0_3) = v3 c
          ∧ r.2.mem ((c.tc : Thread Cert.ProjReferenceIdeal.nD Cert.ProjReferenceIdeal.τ).loc Cert.ProjReferenceIdeal.main_v0_4) = v4 c
          ∧ r.2.mem ((c.tc : Thread Cert.ProjReferenceIdeal.nD Cert.ProjReferenceIdeal.τ).loc Cert.ProjReferenceIdeal.main_v0_5) = v5 c
          ∧ r.2.mem ((c.tc : Thread Cert.ProjReferenceIdeal.nD Cert.ProjReferenceIdeal.τ).loc Cert.ProjReferenceIdeal.main_v0_6) = v6 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8)
          ∧ r.2.mem ((c.tc : Thread Cert.ProjReferenceIdeal.nD Cert.ProjReferenceIdeal.τ).loc Cert.ProjReferenceIdeal.main_arg9) = m' ((c.tc : Thread Cert.ProjReferenceIdeal.nD Cert.ProjReferenceIdeal.τ).loc Cert.ProjReferenceIdeal.main_arg9)
          ∧ r.2.mem ((c.tc : Thread Cert.ProjReferenceIdeal.nD Cert.ProjReferenceIdeal.τ).loc Cert.ProjReferenceIdeal.main_arg10) = m' ((c.tc : Thread Cert.ProjReferenceIdeal.nD Cert.ProjReferenceIdeal.τ).loc Cert.ProjReferenceIdeal.main_arg10)
          ∧ r.2.mem ((c.tc : Thread Cert.ProjReferenceIdeal.nD Cert.ProjReferenceIdeal.τ).loc Cert.ProjReferenceIdeal.main_arg11) = m' ((c.tc : Thread Cert.ProjReferenceIdeal.nD Cert.ProjReferenceIdeal.τ).loc Cert.ProjReferenceIdeal.main_arg11)
          ∧ r.2.mem ((c.tc : Thread Cert.ProjReferenceIdeal.nD Cert.ProjReferenceIdeal.τ).loc Cert.ProjReferenceIdeal.main_arg12) = m' ((c.tc : Thread Cert.ProjReferenceIdeal.nD Cert.ProjReferenceIdeal.τ).loc Cert.ProjReferenceIdeal.main_arg12))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts) (hPre_scales_ok : Cert.Pre_scales_ok.Facts) (hPre_project_ok : Cert.Pre_project_ok.Facts),
    quiescent_Kernel (hKernel := hKernel)
    ∧ quiescent_KernelIdeal (hKernelIdeal := hKernelIdeal)
    ∧ quiescent_KernelIdeal_pre_scales_ok (hKernelIdeal := hKernelIdeal) (hPre_scales_ok := hPre_scales_ok)
    ∧ quiescent_ReferenceIdeal (hReferenceIdeal := hReferenceIdeal)
    ∧ quiescent_ReferenceIdeal_pre_scales_ok (hReferenceIdeal := hReferenceIdeal) (hPre_scales_ok := hPre_scales_ok)
    ∧ quiescent_Proj (hProj := hProj)
    ∧ quiescent_ProjIdeal (hProjIdeal := hProjIdeal)
    ∧ quiescent_ProjIdeal_pre_project_ok (hProjIdeal := hProjIdeal) (hPre_project_ok := hPre_project_ok)
    ∧ quiescent_ProjReferenceIdeal (hProjReferenceIdeal := hProjReferenceIdeal)
    ∧ quiescent_ProjReferenceIdeal_pre_project_ok (hProjReferenceIdeal := hProjReferenceIdeal) (hPre_project_ok := hPre_project_ok)
    ∧ preserves_Kernel_KernelIdeal
    ∧ algebraic_KernelIdeal_ReferenceIdeal_pre_scales_ok (hKernelIdeal := hKernelIdeal) (hReferenceIdeal := hReferenceIdeal) (hPre_scales_ok := hPre_scales_ok)
    ∧ preserves_Proj_ProjIdeal
    ∧ algebraic_ProjIdeal_ProjReferenceIdeal_pre_project_ok (hProjIdeal := hProjIdeal) (hProjReferenceIdeal := hProjReferenceIdeal) (hPre_project_ok := hPre_project_ok)
-- ==== Pre_project_ok.lean ====
abbrev S2x768x8192 : Shape := ⟨3, ![2, 768, 8192]⟩
abbrev S2x768 : Shape := ⟨2, ![2, 768]⟩
abbrev S5120x8192 : Shape := ⟨2, ![5120, 8192]⟩
abbrev S5120x256 : Shape := ⟨2, ![5120, 256]⟩
abbrev S15360x8192 : Shape := ⟨2, ![15360, 8192]⟩
abbrev S15360x256 : Shape := ⟨2, ![15360, 256]⟩
abbrev S5120x4 : Shape := ⟨2, ![5120, 4]⟩
abbrev S15360x4 : Shape := ⟨2, ![15360, 4]⟩
abbrev S768 : Shape := ⟨1, ![768]⟩
abbrev S_ : Shape := ⟨0, ![]⟩
abbrev S1x768 : Shape := ⟨2, ![1, 768]⟩

class Facts : Prop where
  bcast_S_S2x768 : S_.BroadcastsInDim S2x768 (![] : Fin 0 → Fin S2x768.rank)
  bcast_S768_S1x768_1 : S768.BroadcastsInDim S1x768 (![1] : Fin 1 → Fin S1x768.rank)
  bcast_S1x768_S2x768_0_1 : S1x768.BroadcastsInDim S2x768 (![0, 1] : Fin 2 → Fin S2x768.rank)
  reducesTo_S2x768_S_d0_1 : S2x768.ReducesTo [0, 1] S_
  h_S_ : 0 < S_.numel
  bcast_S_S5120x256 : S_.BroadcastsInDim S5120x256 (![] : Fin 0 → Fin S5120x256.rank)
  reducesTo_S5120x256_S_d0_1 : S5120x256.ReducesTo [0, 1] S_
  bcast_S_S15360x256 : S_.BroadcastsInDim S15360x256 (![] : Fin 0 → Fin S15360x256.rank)
  reducesTo_S15360x256_S_d0_1 : S15360x256.ReducesTo [0, 1] S_

variable [Facts]

def fn_part2 {F : FTy → Type} [FloatOps F] (main_v7 : IVec S_ 1) (main_v27 : IVec S_ 1) (main_v33 : IVec S_ 1) : IVec S_ 1 :=
  let main_v34 : IVec S_ 1 := andi main_v27 main_v33
  let main_v35 : IVec S_ 1 := andi main_v34 main_v7
  main_v35

def fn_part1 {F : FTy → Type} [FloatOps F] (main_arg5 : IVec S5120x256 8) (main_arg8 : IVec S15360x256 8) (main_arg9 : IVec S15360x256 8) (main_v7 : IVec S_ 1) (main_v13 : IVec S_ 1) (main_v15 : IVec S5120x256 1) (main_v16 : IVec S5120x256 8) : IVec S_ 1 :=
  let main_v17 : IVec S5120x256 1 := cmpi .ule main_arg5 main_v16
  let main_v18 : IVec S5120x256 1 := andi main_v15 main_v17
  let main_c_6 : IVec S_ 1 := constantI S_ 1 1#1
  let main_v19 : IVec S_ 1 := (fun x v => Host.reduce IntOp.andi x v reducesTo_S5120x256_S_d0_1 h_S_) main_v18 main_c_6
  let main_v20 : IVec S_ 1 := andi main_v13 main_v19
  let main_c_7 : IVec S_ 8 := constantI S_ 8 1#8
  let main_v21 : IVec S15360x256 8 := broadcastInDim S15360x256 ![] bcast_S_S15360x256 main_c_7
  let main_v22 : IVec S15360x256 1 := cmpi .uge main_arg8 main_v21
  let main_c_8 : IVec S_ 8 := constantI S_ 8 254#8
  let main_v23 : IVec S15360x256 8 := broadcastInDim S15360x256 ![] bcast_S_S15360x256 main_c_8
  let main_v24 : IVec S15360x256 1 := cmpi .ule main_arg8 main_v23
  let main_v25 : IVec S15360x256 1 := andi main_v22 main_v24
  let main_c_9 : IVec S_ 1 := constantI S_ 1 1#1
  let main_v26 : IVec S_ 1 := (fun x v => Host.reduce IntOp.andi x v reducesTo_S15360x256_S_d0_1 h_S_) main_v25 main_c_9
  let main_v27 : IVec S_ 1 := andi main_v20 main_v26
  let main_c_10 : IVec S_ 8 := constantI S_ 8 1#8
  let main_v28 : IVec S15360x256 8 := broadcastInDim S15360x256 ![] bcast_S_S15360x256 main_c_10
  let main_v29 : IVec S15360x256 1 := cmpi .uge main_arg9 main_v28
  let main_c_11 : IVec S_ 8 := constantI S_ 8 254#8
  let main_v30 : IVec S15360x256 8 := broadcastInDim S15360x256 ![] bcast_S_S15360x256 main_c_11
  let main_v31 : IVec S15360x256 1 := cmpi .ule main_arg9 main_v30
  let main_v32 : IVec S15360x256 1 := andi main_v29 main_v31
  let main_c_12 : IVec S_ 1 := constantI S_ 1 1#1
  let main_v33 : IVec S_ 1 := (fun x v => Host.reduce IntOp.andi x v reducesTo_S15360x256_S_d0_1 h_S_) main_v32 main_c_12
  fn_part2 (F := F) main_v7 main_v27 main_v33

def fn {F : FTy → Type} [FloatOps F] (main_arg0 : FVec F S2x768x8192 .bf16) (main_arg1 : IVec S2x768 32) (main_arg2 : FVec F S5120x8192 .fp8e4m3) (main_arg3 : FVec F S5120x8192 .fp8e4m3) (main_arg4 : IVec S5120x256 8) (main_arg5 : IVec S5120x256 8) (main_arg6 : FVec F S15360x8192 .fp8e4m3) (main_arg7 : FVec F S15360x8192 .fp8e4m3) (main_arg8 : IVec S15360x256 8) (main_arg9 : IVec S15360x256 8) (main_arg10 : FVec F S5120x4 .f32) (main_arg11 : FVec F S5120x4 .f32) (main_arg12 : FVec F S15360x4 .f32) : IVec S_ 1 :=
  let main_v0 : IVec S768 32 := iotaInDim S768 32 0
  let main_c : IVec S_ 32 := constantI S_ 32 0#32
  let main_v1 : IVec S2x768 32 := broadcastInDim S2x768 ![] bcast_S_S2x768 main_c
  let main_v2 : IVec S2x768 1 := cmpi .sge main_arg1 main_v1
  let main_v3 : IVec S1x768 32 := broadcastInDim S1x768 ![1] bcast_S768_S1x768_1 main_v0
  let main_v4 : IVec S2x768 32 := broadcastInDim S2x768 ![0, 1] bcast_S1x768_S2x768_0_1 main_v3
  let main_v5 : IVec S2x768 1 := cmpi .sle main_arg1 main_v4
  let main_v6 : IVec S2x768 1 := andi main_v2 main_v5
  let main_c_0 : IVec S_ 1 := constantI S_ 1 1#1
  let main_v7 : IVec S_ 1 := (fun x v => Host.reduce IntOp.andi x v reducesTo_S2x768_S_d0_1 h_S_) main_v6 main_c_0
  let main_c_1 : IVec S_ 8 := constantI S_ 8 1#8
  let main_v8 : IVec S5120x256 8 := broadcastInDim S5120x256 ![] bcast_S_S5120x256 main_c_1
  let main_v9 : IVec S5120x256 1 := cmpi .uge main_arg4 main_v8
  let main_c_2 : IVec S_ 8 := constantI S_ 8 254#8
  let main_v10 : IVec S5120x256 8 := broadcastInDim S5120x256 ![] bcast_S_S5120x256 main_c_2
  let main_v11 : IVec S5120x256 1 := cmpi .ule main_arg4 main_v10
  let main_v12 : IVec S5120x256 1 := andi main_v9 main_v11
  let main_c_3 : IVec S_ 1 := constantI S_ 1 1#1
  let main_v13 : IVec S_ 1 := (fun x v => Host.reduce IntOp.andi x v reducesTo_S5120x256_S_d0_1 h_S_) main_v12 main_c_3
  let main_c_4 : IVec S_ 8 := constantI S_ 8 1#8
  let main_v14 : IVec S5120x256 8 := broadcastInDim S5120x256 ![] bcast_S_S5120x256 main_c_4
  let main_v15 : IVec S5120x256 1 := cmpi .uge main_arg5 main_v14
  let main_c_5 : IVec S_ 8 := constantI S_ 8 254#8
  let main_v16 : IVec S5120x256 8 := broadcastInDim S5120x256 ![] bcast_S_S5120x256 main_c_5
  fn_part1 (F := F) main_arg5 main_arg8 main_arg9 main_v7 main_v13 main_v15 main_v16
-- ==== Pre_scales_ok.lean ====
abbrev S1536x15360 : Shape := ⟨2, ![1536, 15360]⟩
abbrev S8192x15360 : Shape := ⟨2, ![8192, 15360]⟩
abbrev S8192x480 : Shape := ⟨2, ![8192, 480]⟩
abbrev S_ : Shape := ⟨0, ![]⟩

class Facts : Prop where
  bcast_S_S8192x480 : S_.BroadcastsInDim S8192x480 (![] : Fin 0 → Fin S8192x480.rank)
  reducesTo_S8192x480_S_d0_1 : S8192x480.ReducesTo [0, 1] S_
  h_S_ : 0 < S_.numel

variable [Facts]

def fn {F : FTy → Type} [FloatOps F] (main_arg0 : FVec F S1536x15360 .bf16) (main_arg1 : FVec F S8192x15360 .fp8e4m3) (main_arg2 : IVec S8192x480 8) : IVec S_ 1 :=
  let main_c : IVec S_ 8 := constantI S_ 8 1#8
  let main_v0 : IVec S8192x480 8 := broadcastInDim S8192x480 ![] bcast_S_S8192x480 main_c
  let main_v1 : IVec S8192x480 1 := cmpi .uge main_arg2 main_v0
  let main_c_0 : IVec S_ 8 := constantI S_ 8 254#8
  let main_v2 : IVec S8192x480 8 := broadcastInDim S8192x480 ![] bcast_S_S8192x480 main_c_0
  let main_v3 : IVec S8192x480 1 := cmpi .ule main_arg2 main_v2
  let main_v4 : IVec S8192x480 1 := andi main_v1 main_v3
  let main_c_1 : IVec S_ 1 := constantI S_ 1 1#1
  let main_v5 : IVec S_ 1 := (fun x v => Host.reduce IntOp.andi x v reducesTo_S8192x480_S_d0_1 h_S_) main_v4 main_c_1
  main_v5
-- ==== Kernel.lean ====
abbrev S1536x15360 : Shape := ⟨2, ![1536, 15360]⟩
abbrev S8192x15360 : Shape := ⟨2, ![8192, 15360]⟩
abbrev S8192x480 : Shape := ⟨2, ![8192, 480]⟩
abbrev S8192x5x96 : Shape := ⟨3, ![8192, 5, 96]⟩
abbrev S_ : Shape := ⟨0, ![]⟩
abbrev S8192x5x128 : Shape := ⟨3, ![8192, 5, 128]⟩
abbrev S5x8192x128 : Shape := ⟨3, ![5, 8192, 128]⟩
abbrev S1536x8192 : Shape := ⟨2, ![1536, 8192]⟩
abbrev S1536x3072 : Shape := ⟨2, ![1536, 3072]⟩
abbrev S1024x3072 : Shape := ⟨2, ![1024, 3072]⟩
abbrev S1x1024x128 : Shape := ⟨3, ![1, 1024, 128]⟩
abbrev S1536x1024 : Shape := ⟨2, ![1536, 1024]⟩
abbrev S1024x128 : Shape := ⟨2, ![1024, 128]⟩
abbrev S1024x128x1 : Shape := ⟨3, ![1024, 128, 1]⟩

abbrev nBuf : Space → Nat
  | .hbm => 9
  | .vmem => 10
  | .smem => 0
  | _ => 0

abbrev bufTy : (tb : Table) → Fin (tcTables nBuf tb) → BufTy
  | .hbm, ⟨0, _⟩ => ⟨S1536x15360, .bf16⟩
  | .hbm, ⟨1, _⟩ => ⟨S8192x15360, .fp8e4m3⟩
  | .hbm, ⟨2, _⟩ => ⟨S8192x480, .i8⟩
  | .hbm, ⟨3, _⟩ => ⟨S8192x5x96, .i8⟩
  | .hbm, ⟨4, _⟩ => ⟨S_, .i32⟩
  | .hbm, ⟨5, _⟩ => ⟨S_, .i8⟩
  | .hbm, ⟨6, _⟩ => ⟨S8192x5x128, .i8⟩
  | .hbm, ⟨7, _⟩ => ⟨S5x8192x128, .i8⟩
  | .hbm, ⟨8, _⟩ => ⟨S1536x8192, .bf16⟩
  | .local _ .vmem, ⟨0, _⟩ => ⟨S1536x3072, .bf16⟩
  | .local _ .vmem, ⟨1, _⟩ => ⟨S1536x3072, .bf16⟩
  | .local _ .vmem, ⟨2, _⟩ => ⟨S1024x3072, .fp8e4m3⟩
  | .local _ .vmem, ⟨3, _⟩ => ⟨S1024x3072, .fp8e4m3⟩
  | .local _ .vmem, ⟨4, _⟩ => ⟨S1x1024x128, .i8⟩
  | .local _ .vmem, ⟨5, _⟩ => ⟨S1x1024x128, .i8⟩
  | .local _ .vmem, ⟨6, _⟩ => ⟨S1536x1024, .bf16⟩
  | .local _ .vmem, ⟨7, _⟩ => ⟨S1536x1024, .bf16⟩
  | .local _ .vmem, ⟨8, _⟩ => ⟨S1536x1024, .f32⟩
  | .local _ .vmem, ⟨9, _⟩ => ⟨S1024x3072, .bf16⟩
  | _, _ => ⟨S1536x15360, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg1 : BitVec 32 := BitVec.ofNat 32 (i 1).val
  let c4_i32_299 : BitVec 32 := 4#32
  let v1027 : BitVec 1 := Scalar.cmpi .eq arg1 c4_i32_299
  let v1028 : BitVec 32 := Scalar.extui v1027
  let c0_i32_300 : BitVec 32 := 0#32
  let v1029 : BitVec 1 := Scalar.cmpi .ne v1028 c0_i32_300
  v1029

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1536x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x3072 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1536x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S1536x15360 : Shape := ⟨2, ![1536, 15360]⟩
abbrev S8192x15360 : Shape := ⟨2, ![8192, 15360]⟩
abbrev S8192x480 : Shape := ⟨2, ![8192, 480]⟩
abbrev S1536x8192 : Shape := ⟨2, ![1536, 8192]⟩
abbrev S8192x480x32 : Shape := ⟨3, ![8192, 480, 32]⟩
abbrev S8192x480x1 : Shape := ⟨3, ![8192, 480, 1]⟩

abbrev nBuf : Space → Nat
  | .hbm => 4
  | .vmem => 4
  | .smem => 0
  | _ => 0

abbrev bufTy : (tb : Table) → Fin (tcTables nBuf tb) → BufTy
  | .hbm, ⟨0, _⟩ => ⟨S1536x15360, .bf16⟩
  | .hbm, ⟨1, _⟩ => ⟨S8192x15360, .fp8e4m3⟩
  | .hbm, ⟨2, _⟩ => ⟨S8192x480, .i8⟩
  | .hbm, ⟨3, _⟩ => ⟨S1536x8192, .bf16⟩
  | .local _ .vmem, ⟨0, _⟩ => ⟨S1536x15360, .bf16⟩
  | .local _ .vmem, ⟨1, _⟩ => ⟨S8192x15360, .fp8e4m3⟩
  | .local _ .vmem, ⟨2, _⟩ => ⟨S8192x480, .i8⟩
  | .local _ .vmem, ⟨3, _⟩ => ⟨S1536x8192, .bf16⟩
  | _, _ => ⟨S1536x15360, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1536x15360 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x15360 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x480 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proj.lean ====
abbrev S2x768x8192 : Shape := ⟨3, ![2, 768, 8192]⟩
abbrev S2x768 : Shape := ⟨2, ![2, 768]⟩
abbrev S5120x8192 : Shape := ⟨2, ![5120, 8192]⟩
abbrev S5120x256 : Shape := ⟨2, ![5120, 256]⟩
abbrev S15360x8192 : Shape := ⟨2, ![15360, 8192]⟩
abbrev S15360x256 : Shape := ⟨2, ![15360, 256]⟩
abbrev S5120x4 : Shape := ⟨2, ![5120, 4]⟩
abbrev S15360x4 : Shape := ⟨2, ![15360, 4]⟩
abbrev S1536x8192 : Shape := ⟨2, ![1536, 8192]⟩
abbrev S768 : Shape := ⟨1, ![768]⟩
abbrev S1x768 : Shape := ⟨2, ![1, 768]⟩
abbrev S1536x1 : Shape := ⟨2, ![1536, 1]⟩
abbrev S4x5120 : Shape := ⟨2, ![4, 5120]⟩
abbrev S4x15360 : Shape := ⟨2, ![4, 15360]⟩
abbrev S1536x5120 : Shape := ⟨2, ![1536, 5120]⟩
abbrev S1536x15360 : Shape := ⟨2, ![1536, 15360]⟩
abbrev S16x5120 : Shape := ⟨2, ![16, 5120]⟩
abbrev S16x15360 : Shape := ⟨2, ![16, 15360]⟩
abbrev S128x8192 : Shape := ⟨2, ![128, 8192]⟩
abbrev S384x8192 : Shape := ⟨2, ![384, 8192]⟩
abbrev S128x256 : Shape := ⟨2, ![128, 256]⟩
abbrev S384x256 : Shape := ⟨2, ![384, 256]⟩
abbrev S4x128 : Shape := ⟨2, ![4, 128]⟩
abbrev S4x384 : Shape := ⟨2, ![4, 384]⟩
abbrev S1536x128 : Shape := ⟨2, ![1536, 128]⟩
abbrev S1536x384 : Shape := ⟨2, ![1536, 384]⟩
abbrev S16x128 : Shape := ⟨2, ![16, 128]⟩
abbrev S16x384 : Shape := ⟨2, ![16, 384]⟩
abbrev S256x8192 : Shape := ⟨2, ![256, 8192]⟩
abbrev S128x128 : Shape := ⟨2, ![128, 128]⟩
abbrev S128x128x1 : Shape := ⟨3, ![128, 128, 1]⟩
abbrev S1536x256 : Shape := ⟨2, ![1536, 256]⟩
abbrev S1x128 : Shape := ⟨2, ![1, 128]⟩
abbrev S8x128 : Shape := ⟨2, ![8, 128]⟩
abbrev S2x768x5120 : Shape := ⟨3, ![2, 768, 5120]⟩
abbrev S2x768x15360 : Shape := ⟨3, ![2, 768, 15360]⟩
abbrev S2x8x5120 : Shape := ⟨3, ![2, 8, 5120]⟩
abbrev S2x3x5120 : Shape := ⟨3, ![2, 3, 5120]⟩
abbrev S2x8x15360 : Shape := ⟨3, ![2, 8, 15360]⟩
abbrev S2x3x15360 : Shape := ⟨3, ![2, 3, 15360]⟩

abbrev nBuf : Space → Nat
  | .hbm => 39
  | .vmem => 39
  | .smem => 0
  | _ => 0

abbrev bufTy : (tb : Table) → Fin (tcTables nBuf tb) → BufTy
  | .hbm, ⟨0, _⟩ => ⟨S2x768x8192, .bf16⟩
  | .hbm, ⟨1, _⟩ => ⟨S2x768, .i32⟩
  | .hbm, ⟨2, _⟩ => ⟨S5120x8192, .fp8e4m3⟩
  | .hbm, ⟨3, _⟩ => ⟨S5120x8192, .fp8e4m3⟩
  | .hbm, ⟨4, _⟩ => ⟨S5120x256, .i8⟩
  | .hbm, ⟨5, _⟩ => ⟨S5120x256, .i8⟩
  | .hbm, ⟨6, _⟩ => ⟨S15360x8192, .fp8e4m3⟩
  | .hbm, ⟨7, _⟩ => ⟨S15360x8192, .fp8e4m3⟩
  | .hbm, ⟨8, _⟩ => ⟨S15360x256, .i8⟩
  | .hbm, ⟨9, _⟩ => ⟨S15360x256, .i8⟩
  | .hbm, ⟨10, _⟩ => ⟨S5120x4, .f32⟩
  | .hbm, ⟨11, _⟩ => ⟨S5120x4, .f32⟩
  | .hbm, ⟨12, _⟩ => ⟨S15360x4, .f32⟩
  | .hbm, ⟨13, _⟩ => ⟨S1536x8192, .bf16⟩
  | .hbm, ⟨14, _⟩ => ⟨S768, .i32⟩
  | .hbm, ⟨15, _⟩ => ⟨S1x768, .i32⟩
  | .hbm, ⟨16, _⟩ => ⟨S2x768, .i32⟩
  | .hbm, ⟨17, _⟩ => ⟨S2x768, .i32⟩
  | .hbm, ⟨18, _⟩ => ⟨S1536x1, .i32⟩
  | .hbm, ⟨19, _⟩ => ⟨S4x5120, .f32⟩
  | .hbm, ⟨20, _⟩ => ⟨S4x5120, .f32⟩
  | .hbm, ⟨21, _⟩ => ⟨S4x15360, .f32⟩
  | .hbm, ⟨22, _⟩ => ⟨S1536x5120, .bf16⟩
  | .hbm, ⟨23, _⟩ => ⟨S1536x5120, .bf16⟩
  | .hbm, ⟨24, _⟩ => ⟨S1536x15360, .bf16⟩
  | .hbm, ⟨25, _⟩ => ⟨S1536x15360, .bf16⟩
  | .hbm, ⟨26, _⟩ => ⟨S16x5120, .bf16⟩
  | .hbm, ⟨27, _⟩ => ⟨S16x5120, .bf16⟩
  | .hbm, ⟨28, _⟩ => ⟨S16x15360, .bf16⟩
  | .hbm, ⟨29, _⟩ => ⟨S2x768x5120, .bf16⟩
  | .hbm, ⟨30, _⟩ => ⟨S2x768x5120, .bf16⟩
  | .hbm, ⟨31, _⟩ => ⟨S2x768x15360, .bf16⟩
  | .hbm, ⟨32, _⟩ => ⟨S2x768x15360, .bf16⟩
  | .hbm, ⟨33, _⟩ => ⟨S2x8x5120, .bf16⟩
  | .hbm, ⟨34, _⟩ => ⟨S2x3x5120, .bf16⟩
  | .hbm, ⟨35, _⟩ => ⟨S2x8x5120, .bf16⟩
  | .hbm, ⟨36, _⟩ => ⟨S2x3x5120, .bf16⟩
  | .hbm, ⟨37, _⟩ => ⟨S2x8x15360, .bf16⟩
  | .hbm, ⟨38, _⟩ => ⟨S2x3x15360, .bf16⟩
  | .local _ .vmem, ⟨0, _⟩ => ⟨S1536x8192, .bf16⟩
  | .local _ .vmem, ⟨1, _⟩ => ⟨S1536x1, .i32⟩
  | .local _ .vmem, ⟨2, _⟩ => ⟨S128x8192, .fp8e4m3⟩
  | .local _ .vmem, ⟨3, _⟩ => ⟨S128x8192, .fp8e4m3⟩
  | .local _ .vmem, ⟨4, _⟩ => ⟨S128x8192, .fp8e4m3⟩
  | .local _ .vmem, ⟨5, _⟩ => ⟨S128x8192, .fp8e4m3⟩
  | .local _ .vmem, ⟨6, _⟩ => ⟨S384x8192, .fp8e4m3⟩
  | .local _ .vmem, ⟨7, _⟩ => ⟨S384x8192, .fp8e4m3⟩
  | .local _ .vmem, ⟨8, _⟩ => ⟨S384x8192, .fp8e4m3⟩
  | .local _ .vmem, ⟨9, _⟩ => ⟨S384x8192, .fp8e4m3⟩
  | .local _ .vmem, ⟨10, _⟩ => ⟨S128x256, .i8⟩
  | .local _ .vmem, ⟨11, _⟩ => ⟨S128x256, .i8⟩
  | .local _ .vmem, ⟨12, _⟩ => ⟨S128x256, .i8⟩
  | .local _ .vmem, ⟨13, _⟩ => ⟨S128x256, .i8⟩
  | .local _ .vmem, ⟨14, _⟩ => ⟨S384x256, .i8⟩
  | .local _ .vmem, ⟨15, _⟩ => ⟨S384x256, .i8⟩
  | .local _ .vmem, ⟨16, _⟩ => ⟨S384x256, .i8⟩
  | .local _ .vmem, ⟨17, _⟩ => ⟨S384x256, .i8⟩
  | .local _ .vmem, ⟨18, _⟩ => ⟨S4x128, .f32⟩
  | .local _ .vmem, ⟨19, _⟩ => ⟨S4x128, .f32⟩
  | .local _ .vmem, ⟨20, _⟩ => ⟨S4x128, .f32⟩
  | .local _ .vmem, ⟨21, _⟩ => ⟨S4x128, .f32⟩
  | .local _ .vmem, ⟨22, _⟩ => ⟨S4x384, .f32⟩
  | .local _ .vmem, ⟨23, _⟩ => ⟨S4x384, .f32⟩
  | .local _ .vmem, ⟨24, _⟩ => ⟨S1536x128, .bf16⟩
  | .local _ .vmem, ⟨25, _⟩ => ⟨S1536x128, .bf16⟩
  | .local _ .vmem, ⟨26, _⟩ => ⟨S1536x128, .bf16⟩
  | .local _ .vmem, ⟨27, _⟩ => ⟨S1536x128, .bf16⟩
  | .local _ .vmem, ⟨28, _⟩ => ⟨S1536x384, .bf16⟩
  | .local _ .vmem, ⟨29, _⟩ => ⟨S1536x384, .bf16⟩
  | .local _ .vmem, ⟨30, _⟩ => ⟨S1536x384, .bf16⟩
  | .local _ .vmem, ⟨31, _⟩ => ⟨S1536x384, .bf16⟩
  | .local _ .vmem, ⟨32, _⟩ => ⟨S16x128, .bf16⟩
  | .local _ .vmem, ⟨33, _⟩ => ⟨S16x128, .bf16⟩
  | .local _ .vmem, ⟨34, _⟩ => ⟨S16x128, .bf16⟩
  | .local _ .vmem, ⟨35, _⟩ => ⟨S16x128, .bf16⟩
  | .local _ .vmem, ⟨36, _⟩ => ⟨S16x384, .bf16⟩
  | .local _ .vmem, ⟨37, _⟩ => ⟨S16x384, .bf16⟩
  | .local _ .vmem, ⟨38, _⟩ => ⟨S256x8192, .bf16⟩
  | _, _ => ⟨S2x768x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_v9_2 : Ref sig .tc := ⟨.hbm, 24, rfl⟩
abbrev main_v9_3 : Ref sig .tc := ⟨.hbm, 25, rfl⟩
abbrev main_v9_4 : Ref sig .tc := ⟨.hbm, 26, rfl⟩
abbrev main_v9_5 : Ref sig .tc := ⟨.hbm, 27, rfl⟩
abbrev main_v9_6 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_scratch0 : Ref sig .tc := ⟨.vmem, 38, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x8192 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x8192 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x8192 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x256 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x256 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1536x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1536x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1536x384 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1536x384 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S16x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S16x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S16x384 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ProjReferenceIdeal.lean ====
abbrev S2x768x8192 : Shape := ⟨3, ![2, 768, 8192]⟩
abbrev S2x768 : Shape := ⟨2, ![2, 768]⟩
abbrev S5120x8192 : Shape := ⟨2, ![5120, 8192]⟩
abbrev S5120x256 : Shape := ⟨2, ![5120, 256]⟩
abbrev S15360x8192 : Shape := ⟨2, ![15360, 8192]⟩
abbrev S15360x256 : Shape := ⟨2, ![15360, 256]⟩
abbrev S5120x4 : Shape := ⟨2, ![5120, 4]⟩
abbrev S15360x4 : Shape := ⟨2, ![15360, 4]⟩
abbrev S2x768x5120 : Shape := ⟨3, ![2, 768, 5120]⟩
abbrev S2x768x15360 : Shape := ⟨3, ![2, 768, 15360]⟩
abbrev S2x3x5120 : Shape := ⟨3, ![2, 3, 5120]⟩
abbrev S2x3x15360 : Shape := ⟨3, ![2, 3, 15360]⟩
abbrev S5120x256x32 : Shape := ⟨3, ![5120, 256, 32]⟩
abbrev S5120x256x1 : Shape := ⟨3, ![5120, 256, 1]⟩
abbrev S15360x256x32 : Shape := ⟨3, ![15360, 256, 32]⟩
abbrev S15360x256x1 : Shape := ⟨3, ![15360, 256, 1]⟩
abbrev S1x768 : Shape := ⟨2, ![1, 768]⟩
abbrev S768 : Shape := ⟨1, ![768]⟩
abbrev S2x771x5120 : Shape := ⟨3, ![2, 771, 5120]⟩
abbrev S2x768x1 : Shape := ⟨3, ![2, 768, 1]⟩
abbrev S5120x1 : Shape := ⟨2, ![5120, 1]⟩
abbrev S5120 : Shape := ⟨1, ![5120]⟩
abbrev S1x1x5120 : Shape := ⟨3, ![1, 1, 5120]⟩
abbrev S2x771x15360 : Shape := ⟨3, ![2, 771, 15360]⟩
abbrev S15360x1 : Shape := ⟨2, ![15360, 1]⟩
abbrev S15360 : Shape := ⟨1, ![15360]⟩
abbrev S1x1x15360 : Shape := ⟨3, ![1, 1, 15360]⟩

abbrev nBuf : Space → Nat
  | .hbm => 20
  | .vmem => 20
  | .smem => 0
  | _ => 0

abbrev bufTy : (tb : Table) → Fin (tcTables nBuf tb) → BufTy
  | .hbm, ⟨0, _⟩ => ⟨S2x768x8192, .bf16⟩
  | .hbm, ⟨1, _⟩ => ⟨S2x768, .i32⟩
  | .hbm, ⟨2, _⟩ => ⟨S5120x8192, .fp8e4m3⟩
  | .hbm, ⟨3, _⟩ => ⟨S5120x8192, .fp8e4m3⟩
  | .hbm, ⟨4, _⟩ => ⟨S5120x256, .i8⟩
  | .hbm, ⟨5, _⟩ => ⟨S5120x256, .i8⟩
  | .hbm, ⟨6, _⟩ => ⟨S15360x8192, .fp8e4m3⟩
  | .hbm, ⟨7, _⟩ => ⟨S15360x8192, .fp8e4m3⟩
  | .hbm, ⟨8, _⟩ => ⟨S15360x256, .i8⟩
  | .hbm, ⟨9, _⟩ => ⟨S15360x256, .i8⟩
  | .hbm, ⟨10, _⟩ => ⟨S5120x4, .f32⟩
  | .hbm, ⟨11, _⟩ => ⟨S5120x4, .f32⟩
  | .hbm, ⟨12, _⟩ => ⟨S15360x4, .f32⟩
  | .hbm, ⟨13, _⟩ => ⟨S2x768x5120, .bf16⟩
  | .hbm, ⟨14, _⟩ => ⟨S2x768x5120, .bf16⟩
  | .hbm, ⟨15, _⟩ => ⟨S2x768x15360, .bf16⟩
  | .hbm, ⟨16, _⟩ => ⟨S2x768x15360, .bf16⟩
  | .hbm, ⟨17, _⟩ => ⟨S2x3x5120, .bf16⟩
  | .hbm, ⟨18, _⟩ => ⟨S2x3x5120, .bf16⟩
  | .hbm, ⟨19, _⟩ => ⟨S2x3x15360, .bf16⟩
  | .local _ .vmem, ⟨0, _⟩ => ⟨S2x768x8192, .bf16⟩
  | .local _ .vmem, ⟨1, _⟩ => ⟨S2x768, .i32⟩
  | .local _ .vmem, ⟨2, _⟩ => ⟨S5120x8192, .fp8e4m3⟩
  | .local _ .vmem, ⟨3, _⟩ => ⟨S5120x8192, .fp8e4m3⟩
  | .local _ .vmem, ⟨4, _⟩ => ⟨S5120x256, .i8⟩
  | .local _ .vmem, ⟨5, _⟩ => ⟨S5120x256, .i8⟩
  | .local _ .vmem, ⟨6, _⟩ => ⟨S15360x8192, .fp8e4m3⟩
  | .local _ .vmem, ⟨7, _⟩ => ⟨S15360x8192, .fp8e4m3⟩
  | .local _ .vmem, ⟨8, _⟩ => ⟨S15360x256, .i8⟩
  | .local _ .vmem, ⟨9, _⟩ => ⟨S15360x256, .i8⟩
  | .local _ .vmem, ⟨10, _⟩ => ⟨S5120x4, .f32⟩
  | .local _ .vmem, ⟨11, _⟩ => ⟨S5120x4, .f32⟩
  | .local _ .vmem, ⟨12, _⟩ => ⟨S15360x4, .f32⟩
  | .local _ .vmem, ⟨13, _⟩ => ⟨S2x768x5120, .bf16⟩
  | .local _ .vmem, ⟨14, _⟩ => ⟨S2x768x5120, .bf16⟩
  | .local _ .vmem, ⟨15, _⟩ => ⟨S2x768x15360, .bf16⟩
  | .local _ .vmem, ⟨16, _⟩ => ⟨S2x768x15360, .bf16⟩
  | .local _ .vmem, ⟨17, _⟩ => ⟨S2x3x5120, .bf16⟩
  | .local _ .vmem, ⟨18, _⟩ => ⟨S2x3x5120, .bf16⟩
  | .local _ .vmem, ⟨19, _⟩ => ⟨S2x3x15360, .bf16⟩
  | _, _ => ⟨S2x768x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev main_v0_6 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

abbrev stage0_0 : Fin 1 → Memref sig .tc .vmem S2x768x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x768 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x256 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120x256 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S15360x8192 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S15360x8192 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S15360x256 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S15360x256 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S5120x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S5120x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S15360x4 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x768x5120 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x768x5120 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x768x15360 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x768x15360 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x3x5120 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x3x5120 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x3x15360 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== Proof.Lane.lean ====
module

public import Idealize.ShloMosaic.Lib.Pointwise

@[expose] public section

set_option maxRecDepth 16384

noncomputable section

open Idealize.ShloMosaic Idealize.ShloMosaic.TcCoe Idealize.SL.Sem
open Idealize.ShloMosaic.Pipeline (Dat)

/-!
# The column of the scale table that a lane reads

A dequantised tile is 128 lanes wide and a scale covers 32 lanes, so lane `n` of a tile whose first scale is number `j`
takes scale `n / 32 + j`. The program computes that number in 32-bit words, with the corrections that make a division
round down and an index wrap; on the numbers that occur the corrections do nothing.
-/

namespace Cert.Lane

/-- The word the program computes for lane `n` of a tile whose first scale is number `j`. -/
abbrev quot (n : ℕ) : BitVec 32 :=
  Scalar.select
    (IntOp.andi
      (IntOp.cmpi CmpIPredicate.ne
        (IntOp.subi (BitVec.setWidth 32 (IntOp.cmpi CmpIPredicate.sgt (BitVec.ofNat 32 n) 0#32))
          (BitVec.setWidth 32 (IntOp.cmpi CmpIPredicate.slt (BitVec.ofNat 32 n) 0#32)))
        (Scalar.subi (Scalar.extui (Scalar.cmpi CmpIPredicate.sgt 32#32 0#32))
          (Scalar.extui (Scalar.cmpi CmpIPredicate.slt 32#32 0#32))))
      (IntOp.cmpi CmpIPredicate.ne (IntOp.remsi ArithUnit.vector (BitVec.ofNat 32 n) 32#32) 0#32))
    (IntOp.subi (IntOp.divsi ArithUnit.vector (BitVec.ofNat 32 n) 32#32) 1#32)
    (IntOp.divsi ArithUnit.vector (BitVec.ofNat 32 n) 32#32)

/-- The index word: the quotient plus `j`, wrapped if it were negative. -/
abbrev word (n : ℕ) (j : BitVec 32) : BitVec 32 :=
  Scalar.select (IntOp.cmpi CmpIPredicate.slt (IntOp.addi (quot n) j) 0#32)
    (IntOp.addi (IntOp.addi (quot n) j) 128#32) (IntOp.addi (quot n) j)

theorem quot_eq : ∀ n : Fin 128, quot n.val = BitVec.ofNat 32 (n.val / 32) := by decide +kernel

theorem wrap_eq : ∀ (q : Fin 4) (j : Fin 125),
    (Scalar.select (IntOp.cmpi CmpIPredicate.slt (IntOp.addi (BitVec.ofNat 32 q.val) (BitVec.ofNat 32 j.val)) 0#32)
      (IntOp.addi (IntOp.addi (BitVec.ofNat 32 q.val) (BitVec.ofNat 32 j.val)) 128#32)
      (IntOp.addi (BitVec.ofNat 32 q.val) (BitVec.ofNat 32 j.val))).toNat % 128 = q.val + j.val := by decide +kernel

/-- Read as a column number it is `n / 32 + j`. -/
theorem word_val (n j : ℕ) (hn : n < 128) (hj : j < 125) : (word n (BitVec.ofNat 32 j)).toNat % 128 = n / 32 + j := by
  unfold word
  rw [quot_eq ⟨n, hn⟩]
  exact wrap_eq ⟨n / 32, by omega⟩ ⟨j, hj⟩

end Cert.Lane
-- ==== Proof.Block.lean ====
module

public import proofs.«01_k».proof.Proof.Gen.KernelIdeal.Value
public import Idealize.ShloMosaic.Lib.Pipeline.ValueKit
public import Idealize.ShloMosaic.Lib.Pipeline.ReadBack
public import proofs.«01_k».proof.Proof.Lane

@[expose] public section

set_option maxRecDepth 16384

noncomputable section

open Idealize.ShloMosaic Idealize.ShloMosaic.TcCoe Idealize.SL.Sem
open Idealize.ShloMosaic.Pipeline (Dat)

/-!
# What one grid point computes

At a point the kernel holds a block `y` of the left operand, a block of codes and the block of their scale bytes. It
dequantises the codes tile by tile into a scratch buffer and adds to the accumulator the product of `y` with it.
-/

namespace Cert.KernelIdeal.Value
open Cert.KernelIdeal Cert.KernelIdeal.Gen

theorem hz : (![0, 0] : Fin 2 → Nat) = fun _ => 0 := funext fun a => by fin_cases a <;> rfl

/-- The dequantised block: code `(n, k)` times the factor of group `k / 32` of row `n`. -/
abbrev dq (x1 : FVec Ideal S1024x3072 .fp8e4m3) (f : FVec Ideal S1024x128 .f32) : FVec Ideal S1024x3072 .bf16 :=
  fun k => (x1 k * f (ix2 (k 0) ⟨(k 1).val / 32, by have h : (k 1).val < 3072 := (k 1).isLt; omega⟩) : EReal)

/-- One element of a tile is the dequantised block's element it stands for. -/
theorem tile_eq (x1 : FVec Ideal S1024x3072 .fp8e4m3) (f : FVec Ideal S1024x128 .f32) (y : S1024x3072.Idx)
    (r : Fin 1024) (k : Fin 3072) (w : Fin 128) (h0 : (y 0).val = r.val) (h1 : (y 1).val = k.val)
    (hw : w.val = (y 1).val / 32) : (x1 (ix2 r k) * f (ix2 r w) : EReal) = dq x1 f y := by
  have e : y = ix2 r k := (eq_ix2 y).trans (by rw [show y 0 = r from Fin.ext h0, show y 1 = k from Fin.ext h1])
  subst e
  rw [show w = ⟨k.val / 32, by omega⟩ from Fin.ext hw]
  rfl

set_option maxHeartbeats 1600000 in
/-- A middle point adds its product to the accumulator it found. -/
theorem sout_B (c : Dev nD) (i : grid0.Coords)
    (arg2 : Memref sig .tc .vmem S1536x3072 .bf16) (harg2 : arg2.IsWhole)
    (arg3 : Memref sig .tc .vmem S1024x3072 .fp8e4m3) (harg3 : arg3.IsWhole)
    (arg4 : Memref sig .tc .vmem S1x1024x128 .i8) (harg4 : arg4.IsWhole)
    (arg5 : Memref sig .tc .vmem S1536x1024 .bf16) (harg5 : arg5.IsWhole)
    (arg6 : Memref sig .tc .vmem S1536x1024 .f32) (harg6 : arg6.IsWhole)
    (arg7 : Memref sig .tc .vmem S1024x3072 .bf16) (harg7 : arg7.IsWhole)
    (hc0 : ¬cond0_0 i) (hc1 : ¬cond0_1 i)
    (x0 : Vec Ideal S1536x3072 .bf16) (x1 : Vec Ideal S1024x3072 .fp8e4m3) (x2 : Vec Ideal S1x1024x128 .i8) (xs0 : Vec Ideal S1536x1024 .f32) :
    sout0_B_0 c i arg2 harg2 arg3 harg3 arg4 harg4 arg5 harg5 arg6 harg6 arg7 harg7 hc0 hc1 x0 x1 x2 xs0
      = k0_pay3 xs0 x0 (dq x1 (k0_pay5 x2)) := by
  frame_out
  refine congrArg (k0_pay3 xs0 x0) ?_
  rw [View.readCov_eq_canon_ld _ _ _ (View.cover_of_tiled_head _ _ _ (by rfl)), View.ld_unit_zero hz]
  funext y
  generalize k0_pay5 x2 = f
  canon_tiles x h
  all_goals (try open_payloads)
  all_goals
    pointwise
    exact tile_eq x1 f y _ _ _ h0 (by first | exact h1 | (rw [h1]; rfl))
      ((Lane.word_val _ _ x1_lt (by decide)).trans (by omega))

set_option maxHeartbeats 1600000 in
/-- The first point of a run starts from a zeroed accumulator. -/
theorem sout_A (c : Dev nD) (i : grid0.Coords)
    (arg2 : Memref sig .tc .vmem S1536x3072 .bf16) (harg2 : arg2.IsWhole)
    (arg3 : Memref sig .tc .vmem S1024x3072 .fp8e4m3) (harg3 : arg3.IsWhole)
    (arg4 : Memref sig .tc .vmem S1x1024x128 .i8) (harg4 : arg4.IsWhole)
    (arg5 : Memref sig .tc .vmem S1536x1024 .bf16) (harg5 : arg5.IsWhole)
    (arg6 : Memref sig .tc .vmem S1536x1024 .f32) (harg6 : arg6.IsWhole)
    (arg7 : Memref sig .tc .vmem S1024x3072 .bf16) (harg7 : arg7.IsWhole)
    (hc0 : cond0_0 i) (hc1 : ¬cond0_1 i)
    (x0 : Vec Ideal S1536x3072 .bf16) (x1 : Vec Ideal S1024x3072 .fp8e4m3) (x2 : Vec Ideal S1x1024x128 .i8) :
    sout0_A_0 c i arg2 harg2 arg3 harg3 arg4 harg4 arg5 harg5 arg6 harg6 arg7 harg7 hc0 hc1 x0 x1 x2
      = k0_pay3 k0_pay2 x0 (dq x1 (k0_pay5 x2)) := by
  frame_out
  refine congrArg (k0_pay3 k0_pay2 x0) ?_
  rw [View.readCov_eq_canon_ld _ _ _ (View.cover_of_tiled_head _ _ _ (by rfl)), View.ld_unit_zero hz]
  funext y
  generalize k0_pay5 x2 = f
  canon_tiles x h
  all_goals (try open_payloads)
  all_goals
    pointwise
    exact tile_eq x1 f y _ _ _ h0 (by first | exact h1 | (rw [h1]; rfl))
      ((Lane.word_val _ _ x1_lt (by decide)).trans (by omega))

set_option maxHeartbeats 1600000 in
/-- The last point of a run adds its product too. -/
theorem sout_C (c : Dev nD) (i : grid0.Coords)
    (arg2 : Memref sig .tc .vmem S1536x3072 .bf16) (harg2 : arg2.IsWhole)
    (arg3 : Memref sig .tc .vmem S1024x3072 .fp8e4m3) (harg3 : arg3.IsWhole)
    (arg4 : Memref sig .tc .vmem S1x1024x128 .i8) (harg4 : arg4.IsWhole)
    (arg5 : Memref sig .tc .vmem S1536x1024 .bf16) (harg5 : arg5.IsWhole)
    (arg6 : Memref sig .tc .vmem S1536x1024 .f32) (harg6 : arg6.IsWhole)
    (arg7 : Memref sig .tc .vmem S1024x3072 .bf16) (harg7 : arg7.IsWhole)
    (hc0 : ¬cond0_0 i) (hc1 : cond0_1 i)
    (x0 : Vec Ideal S1536x3072 .bf16) (x1 : Vec Ideal S1024x3072 .fp8e4m3) (x2 : Vec Ideal S1x1024x128 .i8) (xs0 : Vec Ideal S1536x1024 .f32) :
    sout0_C_0 c i arg2 harg2 arg3 harg3 arg4 harg4 arg5 harg5 arg6 harg6 arg7 harg7 hc0 hc1 x0 x1 x2 xs0
      = k0_pay3 xs0 x0 (dq x1 (k0_pay5 x2)) := by
  frame_out
  refine congrArg (k0_pay3 xs0 x0) ?_
  rw [View.readCov_eq_canon_ld _ _ _ (View.cover_of_tiled_head _ _ _ (by rfl)), View.ld_unit_zero hz]
  funext y
  generalize k0_pay5 x2 = f
  canon_tiles x h
  all_goals (try open_payloads)
  all_goals
    pointwise
    exact tile_eq x1 f y _ _ _ h0 (by first | exact h1 | (rw [h1]; rfl))
      ((Lane.word_val _ _ x1_lt (by decide)).trans (by omega))

set_option maxHeartbeats 1600000 in
/-- The last point of a run writes out the rounded accumulator. -/
theorem out_C (c : Dev nD) (i : grid0.Coords)
    (arg2 : Memref sig .tc .vmem S1536x3072 .bf16) (harg2 : arg2.IsWhole)
    (arg3 : Memref sig .tc .vmem S1024x3072 .fp8e4m3) (harg3 : arg3.IsWhole)
    (arg4 : Memref sig .tc .vmem S1x1024x128 .i8) (harg4 : arg4.IsWhole)
    (arg5 : Memref sig .tc .vmem S1536x1024 .bf16) (harg5 : arg5.IsWhole)
    (arg6 : Memref sig .tc .vmem S1536x1024 .f32) (harg6 : arg6.IsWhole)
    (arg7 : Memref sig .tc .vmem S1024x3072 .bf16) (harg7 : arg7.IsWhole)
    (hc0 : ¬cond0_0 i) (hc1 : cond0_1 i)
    (x0 : Vec Ideal S1536x3072 .bf16) (x1 : Vec Ideal S1024x3072 .fp8e4m3) (x2 : Vec Ideal S1x1024x128 .i8) (xs0 : Vec Ideal S1536x1024 .f32) :
    out0_C_3 c i arg2 harg2 arg3 harg3 arg4 harg4 arg5 harg5 arg6 harg6 arg7 harg7 hc0 hc1 x0 x1 x2 xs0
      = k0_pay4 (k0_pay3 xs0 x0 (dq x1 (k0_pay5 x2))) := by
  frame_out
  refine congrArg (fun w => k0_pay4 (k0_pay3 xs0 x0 w)) ?_
  rw [View.readCov_eq_canon_ld _ _ _ (View.cover_of_tiled_head _ _ _ (by rfl)), View.ld_unit_zero hz]
  funext y
  generalize k0_pay5 x2 = f
  canon_tiles x h
  all_goals (try open_payloads)
  all_goals
    pointwise
    exact tile_eq x1 f y _ _ _ h0 (by first | exact h1 | (rw [h1]; rfl))
      ((Lane.word_val _ _ x1_lt (by decide)).trans (by omega))

end Cert.KernelIdeal.Value
-- ==== Proof.Factor.lean ====
module

public import Idealize.ShloMosaic.Lib.Pointwise

@[expose] public section

set_option maxRecDepth 16384

noncomputable section

open Idealize.ShloMosaic Idealize.ShloMosaic.TcCoe Idealize.SL.Sem
open Idealize.ShloMosaic.Pipeline (Dat)

/-!
# The factor a scale byte stands for

A scale byte `b` stands for `2 ^ (b - 127)`. The kernel shifts the byte into the exponent field of a 32-bit float; the
reference computes the power. From 1 to 254 the two agree (at 0 and 255 the shifted word is zero and infinity).
-/

namespace Cert.Factor

/-- The number whose 32-bit pattern has the byte as its exponent field. -/
abbrev bits (b : BitVec 8) : EReal := FloatOps.ofBits (F := Ideal) .f32 (IntOp.shli ArithUnit.vector (b.setWidth 32) 23#32)

/-- The power of two. -/
abbrev power (b : BitVec 8) : EReal :=
  FloatOps.exp2 (F := Ideal) (φ := .f32) (FloatOps.sitofp (F := Ideal) .f32 (b.setWidth 32 - 127#32))

/-- The fields of the shifted word, and the difference as an integer. -/
theorem fields : ∀ n : Fin 256,
    (IntOp.shli ArithUnit.vector ((BitVec.ofNat 8 n.val).setWidth 32) 23#32).extractLsb' 31 1 = 0#1
    ∧ ((IntOp.shli ArithUnit.vector ((BitVec.ofNat 8 n.val).setWidth 32) 23#32).extractLsb' 23 8).toNat = n.val
    ∧ ((IntOp.shli ArithUnit.vector ((BitVec.ofNat 8 n.val).setWidth 32) 23#32).extractLsb' 0 23).toNat = 0
    ∧ ((BitVec.ofNat 8 n.val).setWidth 32 - 127#32).toInt = (n.val : ℤ) - 127 := by decide +kernel

/-- A pattern with sign bit 0, exponent field `n` between 1 and 254 and fraction field 0 denotes `2 ^ (n - 127)`. -/
theorem ieee_pow (w : BitVec 32) (n : ℕ) (h1 : 1 ≤ n) (h2 : n ≤ 254) (f0 : w.extractLsb' (8 + 23) 1 = 0#1)
    (f1 : (w.extractLsb' 23 8).toNat = n) (f2 : (w.extractLsb' 0 23).toNat = 0) :
    Ideal.ieee 8 23 w = (((2 : ℝ) ^ ((n : ℤ) - 127) : ℝ) : EReal) := by
  have e : ((1 : ℝ) * ((2 ^ 23 + 0 : ℕ) : ℝ) * (2 : ℝ) ^ ((n : ℤ) - (2 ^ (8 - 1) - 1) - (23 : ℕ)) : ℝ) = (2 : ℝ) ^ ((n : ℤ) - 127) := by
    rw [one_mul, show (((2 ^ 23 + 0 : ℕ) : ℝ)) = (2 : ℝ) ^ (23 : ℤ) by norm_num, ← zpow_add₀ (by norm_num)]
    congr 1
    norm_num
  rw [← e]
  unfold Ideal.ieee
  simp only [f0, f1, f2]
  rw [if_neg (by omega), if_neg (by omega)]
  rfl

theorem bits_eq_power (b : BitVec 8) (h1 : 1 ≤ b.toNat) (h2 : b.toNat ≤ 254) : bits b = power b := by
  obtain ⟨f0, f1, f2, f3⟩ := fields ⟨b.toNat, b.isLt⟩
  rw [BitVec.ofNat_toNat, BitVec.setWidth_eq] at f0 f1 f2 f3
  have hb : bits b = Ideal.ieee 8 23 (IntOp.shli ArithUnit.vector (b.setWidth 32) 23#32) := rfl
  have hp : power b = Ideal.exp2 (((b.setWidth 32 - 127#32).toInt : ℝ) : EReal) := rfl
  have hr : Real.rpow 2 (((b.toNat : ℤ) - 127 : ℤ) : ℝ) = (2 : ℝ) ^ ((b.toNat : ℤ) - 127) := Real.rpow_intCast 2 _
  rw [hb, ieee_pow _ b.toNat h1 h2 f0 f1 f2, hp, f3, Ideal.exp2_coe, hr]

end Cert.Factor
-- ==== Proof.Array.lean ====
module

public import proofs.«01_k».proof.Proof.Block
public import proofs.«01_k».proof.Proof.Factor

@[expose] public section

set_option maxRecDepth 16384

noncomputable section

open Idealize.ShloMosaic Idealize.ShloMosaic.TcCoe Idealize.SL.Sem
open Idealize.ShloMosaic.Pipeline (Dat)

/-!
# What the result array holds after the run

The accumulator after the last of the five points of a run is the sum of the five block products; the block written
back is that sum, so an element of the result is the sum over all 15360 columns.
-/

namespace Cert.KernelIdeal.Value
open Cert.KernelIdeal Cert.KernelIdeal.Gen

variable (m : (ℓ : Loc nD τ sig) → Buf (Elt Ideal) ℓ)

/-- The factor a scale byte stands for: the number whose 32-bit pattern has the byte as its exponent field. -/
abbrev byteFactor (b : BitVec 8) : EReal := Factor.bits b

/-- The block indices of the four windows at point `t`. -/
theorem idx : ∀ t : Fin cfg0.N, win0_0.index t = ![0, t.val % 5] ∧ win0_1.index t = ![t.val / 5, t.val % 5]
    ∧ win0_2.index t = ![t.val % 5, t.val / 5, 0] ∧ win0_3.index t = ![0, t.val / 5] ∧ t.val / 5 < 8 :=
  (by decide +kernel : ∀ t : Fin grid0.N, _)

/-- The accumulator starts from zero at the first point of a run. -/
theorem acc_first (c : Dev nD) (t : Fin cfg0.N) (h : t.val % 5 = 0) (y : S1536x1024.Idx) :
    (outsAt0 m c t.val t.isLt).2 y
      = k0_pay3 k0_pay2 (iblk m c 0 t) (dq (iblk m c 1 t) (k0_pay5 (iblk m c 2 t))) y := by
  rw [outsAt0_A m c t h (by omega), sout_A]

/-- At a later point it is what the point before left plus this point's product. -/
theorem acc_next (c : Dev nD) (t : Fin cfg0.N) (h : ¬t.val % 5 = 0) (y : S1536x1024.Idx) :
    (outsAt0 m c t.val t.isLt).2 y
      = k0_pay3 (outsAt0 m c (t.val - 1) (Nat.lt_of_le_of_lt (Nat.sub_le _ _) t.isLt)).2 (iblk m c 0 t)
          (dq (iblk m c 1 t) (k0_pay5 (iblk m c 2 t))) y := by
  by_cases h1 : t.val % 5 = 4
  · rw [outsAt0_C m c t h h1, sout_C]
  · rw [outsAt0_B m c t h h1, sout_B]

/-- The product a point adds, at an index: the sum over the block's columns. -/
theorem hpay (acc : FVec Ideal S1536x1024 .f32) (x0 : FVec Ideal S1536x3072 .bf16) (x1 : FVec Ideal S1024x3072 .fp8e4m3)
    (x2 : IVec S1x1024x128 8) (j : S1536x1024.Idx) :
    k0_pay3 acc x0 (dq x1 (k0_pay5 x2)) j = acc j + ∑ k : Fin 3072, x0 (ix2 (j 0) k)
      * (x1 (ix2 (j 1) k) * byteFactor (x2 (ix3 0 (j 1) ⟨k.val / 32, by omega⟩))) := by
  pointwise [k0_pay3, k0_pay5, dq, byteFactor]

theorem hzero (j : S1536x1024.Idx) : (k0_pay2 (F := Ideal) : FVec Ideal S1536x1024 .f32) j = 0 := by pointwise [k0_pay2]

theorem hround (x : FVec Ideal S1536x1024 .f32) (j : S1536x1024.Idx) : (k0_pay4 x : FVec Ideal S1536x1024 .bf16) j = x j := by
  pointwise [k0_pay4]

/-- What the last point of a run leaves in the output's staging buffer: the accumulator, rounded. -/
theorem out_last (c : Dev nD) (t : Fin cfg0.N) (h : t.val % 5 = 4) (y : S1536x1024.Idx) :
    (outsAt0 m c t.val t.isLt).1 y = ((outsAt0 m c t.val t.isLt).2 y : EReal) := by
  rw [outsAt0_C m c t (by omega) h, out_C, sout_C]
  exact hround _ y

/-- The kernel's result: the product with the dequantised weights over all columns. -/
def product (a0 : FVec Ideal S1536x15360 .bf16) (a1 : FVec Ideal S8192x15360 .fp8e4m3) (a2 : IVec S8192x480 8) :
    FVec Ideal S1536x8192 .bf16 :=
  fun i => (∑ k : Fin 15360, a0 (ix2 (i 0) k) * (a1 (ix2 (i 1) k) * byteFactor (a2 (ix2 (i 1) ⟨k.val / 32, by omega⟩))) : EReal)

/-- What the host prepares from the scale bytes: five groups of columns, each padded from 96 bytes a row to 128. -/
theorem grouped (c : Dev nD) : (V m c main_v2 : IVec S5x8192x128 8)
    = transpose S5x8192x128 [1, 0, 2] (pad S8192x5x128 ![0, 0, 0] ![0, 0, 32] ![0, 0, 0]
        (shapeCast S8192x5x96 (m ((c : Thread nD τ).loc main_arg2) : IVec S8192x480 8) shapeCasts_S8192x480_S8192x5x96)
        (trunci 8 (constantI S_ 32 0#32) natLt_8_32) pads_S8192x5x96_S8192x5x128_000_000_0320 h_S_)
      transposes_S8192x5x128_S5x8192x128_1_0_2 := by
  rfl

/-- One of the 96 used bytes `g` of group `a` in row `n`. -/
theorem grouped_apply (c : Dev nD) (a : Fin 5) (n : Fin 8192) (g : Fin 128) (hg : g.val < 96) :
    (V m c main_v2 : IVec S5x8192x128 8) (ix3 a n g)
      = (m ((c : Thread nD τ).loc main_arg2) : IVec S8192x480 8) (ix2 n ⟨96 * a.val + g.val, by omega⟩) := by
  rw [grouped]
  pointwise
  rw [dif_pos hg]
  exact congrArg (fun q => (m ((c : Thread nD τ).loc main_arg2) : IVec S8192x480 8) (ix2 n q)) (Fin.ext (by simp only; omega))

/-- The block of scale bytes a point holds, at row `r` and one of its 96 used columns `g`. -/
theorem scales (c : Dev nD) (t : Fin cfg0.N) (r : Fin 1024) (g : Fin 128) (hg : g.val < 96) (n : Fin 8192) (q : Fin 480)
    (hn : n.val = 1024 * (t.val / 5) + r.val) (hq : q.val = 96 * (t.val % 5) + g.val) :
    (V m c main_v2 : IVec S5x8192x128 8) ((win0_2.blk t).view.emb (ix3 0 r g))
      = (m ((c : Thread nD τ).loc main_arg2) : IVec S8192x480 8) (ix2 n q) := by
  have e : (win0_2.blk t).view.emb (ix3 0 r g) = (ix3 ⟨t.val % 5, by omega⟩ n g : S5x8192x128.Idx) := by
    blk_ext [idx t]
  rw [e, grouped_apply m c _ n g hg]
  exact congrArg (fun q' => (m ((c : Thread nD τ).loc main_arg2) : IVec S8192x480 8) (ix2 n q')) (Fin.ext hq.symm)

theorem final (c : Dev nD) : (dats m 0 c).arrAt 3 (cfgs 0).N
    = product (m ((c : Thread nD τ).loc main_arg0)) (m ((c : Thread nD τ).loc main_arg1)) (m ((c : Thread nD τ).loc main_arg2)) := by
  refine (dats m 0 c).arrAt_eq_of_covers 3 _ (by decide +kernel) fun t hf y => ?_
  have hl : t.val % 5 = 4 := (flush0_3 t).mp hf
  blk_simp
  rw [after0_3, out_last m c t hl, Pipeline.eq_sum_fin_of_reset_step_apply_of_flush (fun n h => (outsAt0 m c n h).2) 5 (fun _ => 0) _
    (fun t h j => by rw [acc_first m c t h, hpay, hzero])
    (fun t h j => by rw [acc_next m c t h, hpay]) t hl _, zero_add]
  unfold product
  refine Fin.sum_mul_add_congr fun s k hk => ?_
  blk_point [iblk, V, idx t, idx ⟨_, Pipeline.run_point_lt_of_flush t hl s⟩]
  exact scales m c ⟨_, Pipeline.run_point_lt_of_flush t hl s⟩ (y 1) ⟨k.val / 32, by omega⟩ (by simp only; omega) _ _
    (by blk_simp [idx t]; show _ = 1024 * ((5 * (t.val / 5) + s.val) / 5) + (y 1).val; omega)
    (by show (s.val * 3072 + k.val) / 32 = 96 * ((5 * (t.val / 5) + s.val) % 5) + k.val / 32; omega)

end Cert.KernelIdeal.Value
-- ==== Proof.Equation.lean ====
module

public import proofs.«01_k».proof.Proof.Array
public import proofs.«01_k».proof.Proof.Gen.ReferenceIdeal.Value
public import proofs.«01_k».proof.Pre_scales_ok
public import Idealize.ShloMosaic.Lib.ReduceAll

@[expose] public section

set_option maxRecDepth 16384

noncomputable section

open Idealize.ShloMosaic Idealize.ShloMosaic.TcCoe Idealize.SL.Sem

/-!
# The equation between the two programs

The reference multiplies by the weights times `2 ^ (s - 127)`, `s` the scale byte; the kernel makes the factor from the
byte's bits. For a byte from 1 to 254 the two factors are the same number.
-/

namespace Cert.Equation

/-- The side conditions of the precondition's operations. -/
instance preFacts : Cert.Pre_scales_ok.Facts where
  bcast_S_S8192x480 := by decide
  reducesTo_S8192x480_S_d0_1 := by decide
  h_S_ := by decide

/-- What the precondition says: every scale byte is from 1 to 254. -/
theorem scales_range (a0 : FVec Ideal Cert.Pre_scales_ok.S1536x15360 .bf16) (a1 : FVec Ideal Cert.Pre_scales_ok.S8192x15360 .fp8e4m3)
    (a2 : IVec Cert.Pre_scales_ok.S8192x480 8) (h : Cert.Pre_scales_ok.fn (F := Ideal) a0 a1 a2 = fun _ => 1#1)
    (i : Cert.Pre_scales_ok.S8192x480.Idx) : 1 ≤ (a2 i).toNat ∧ (a2 i).toNat ≤ 254 := by
  have e := congrFun h (fun a => a.elim0)
  dsimp only [Cert.Pre_scales_ok.fn] at e
  have e' := Host.reduce_andi_all _ _ _ _ _ e i
  obtain ⟨l, u⟩ := IntOp.andi_eq_one.mp e'
  exact ⟨IntOp.cmpi_uge.mp l, IntOp.cmpi_ule.mp u⟩

/-- The reference's result at an index. -/
theorem reference_apply (a0 : FVec Ideal Cert.ReferenceIdeal.S1536x15360 .bf16) (a1 : FVec Ideal Cert.ReferenceIdeal.S8192x15360 .fp8e4m3)
    (a2 : IVec Cert.ReferenceIdeal.S8192x480 8) (j : Cert.ReferenceIdeal.S1536x8192.Idx) :
    Cert.ReferenceIdeal.Value.G3 (F := Ideal) a0 a1 a2 j
      = (∑ k : Fin 15360, a0 (ix2 (j 0) k) * (a1 (ix2 (j 1) k) * Factor.power (a2 (ix2 (j 1) ⟨k.val / 32, by omega⟩))) : EReal) := by
  unfold Cert.ReferenceIdeal.Value.G3
  pointwise [Cert.ReferenceIdeal.Gen.k0_pay1, Factor.power]
  rfl

/-- With scale bytes from 1 to 254 the kernel's result is the reference's. -/
theorem equal (a0 : FVec Ideal Cert.ReferenceIdeal.S1536x15360 .bf16) (a1 : FVec Ideal Cert.ReferenceIdeal.S8192x15360 .fp8e4m3)
    (a2 : IVec Cert.ReferenceIdeal.S8192x480 8) (h : ∀ i, 1 ≤ (a2 i).toNat ∧ (a2 i).toNat ≤ 254) :
    Cert.KernelIdeal.Value.product a0 a1 a2 = Cert.ReferenceIdeal.Value.G3 (F := Ideal) a0 a1 a2 := by
  funext j
  rw [reference_apply]
  refine Finset.sum_congr rfl fun k _ => ?_
  rw [Cert.KernelIdeal.Value.byteFactor, Factor.bits_eq_power _ (h _).1 (h _).2]

end Cert.Equation
-- ==== Proof.ProjMath.lean ====
module

public import proofs.«01_k».proof.Proof.Factor

@[expose] public section

noncomputable section

open Idealize.ShloMosaic Idealize.ShloMosaic.TcCoe Idealize.SL.Sem

/-!
# The mathematics of the projections

A row of activations times a row of dequantised weights; the causal convolution of four taps along a document; the activation
`a * logistic a`.
-/

namespace Cert.ProjMath

/-- A row of activations times a row of codes, each code times the factor of its group of 32. -/
def dot (power : BitVec 8 → EReal) (x w : Fin 8192 → EReal) (s : Fin 256 → BitVec 8) : EReal :=
  ∑ k : Fin 8192, x k * (w k * power (s ⟨k.val / 32, by omega⟩))

/-- For scale bytes from 1 to 254 the factor may be made from the byte's bits or as a power of two. -/
theorem dot_eq (x w : Fin 8192 → EReal) (s : Fin 256 → BitVec 8) (h : ∀ g, 1 ≤ (s g).toNat ∧ (s g).toNat ≤ 254) :
    dot Factor.bits x w s = dot Factor.power x w s :=
  Finset.sum_congr rfl fun k _ => by rw [Factor.bits_eq_power _ (h _).1 (h _).2]

/-- The tap `j` steps back at time `t` of a document that starts at `d`: zero before the document's start. -/
def tap (L : Fin 768 → EReal) (d : Nat) (t : Fin 768) (j : Nat) (c : EReal) : EReal :=
  if d + j ≤ t.val then c * L ⟨t.val - j, by omega⟩ else 0

/-- The convolution of four taps, the earliest first. -/
def conv (L : Fin 768 → EReal) (d : Nat) (c : Fin 4 → EReal) (t : Fin 768) : EReal :=
  tap L d t 3 (c 0) + tap L d t 2 (c 1) + tap L d t 1 (c 2) + c 3 * L t

/-- The activation. -/
def silu (a : EReal) : EReal := a * Ideal.logistic a

/-- A time less a small shift, as a signed word. -/
theorem toInt_sub (t j : Nat) (ht : t < 768) (hj : j < 4) :
    (BitVec.ofNat 32 t - BitVec.ofNat 32 j).toInt = (t : Int) - j := by
  rw [BitVec.toInt_sub, BitVec.toInt_ofNat', BitVec.toInt_ofNat']
  simp only [Int.bmod]
  omega

/-- A document's start, not past the time `t`, as a signed word. -/
theorem toInt_start (d : BitVec 32) (t : Nat) (ht : t < 768) (hd : d.toNat ≤ t) : d.toInt = d.toNat := by
  rw [BitVec.toInt_eq_toNat_cond, if_pos (by omega)]

/-- The reference's mask: the time less the shift is not before the document's start. -/
theorem mask_back (d : BitVec 32) (t j : Nat) (ht : t < 768) (hd : d.toNat ≤ t) (hj : j < 4) :
    IntOp.cmpi .sge (BitVec.ofNat 32 t - BitVec.ofNat 32 j) d = BitVec.ofBool (decide (d.toNat + j ≤ t)) := by
  simp only [IntOp.cmpi, BitVec.sle, toInt_sub t j ht hj, toInt_start d t ht hd]
  congr 1
  simp only [decide_eq_decide]
  omega

/-- The kernel's mask: the distance to the document's start is at least the shift. -/
theorem mask_dist (d : BitVec 32) (t j : Nat) (ht : t < 768) (hd : d.toNat ≤ t) (hj : j < 4) :
    IntOp.cmpi .sge (BitVec.ofNat 32 t - d) (BitVec.ofNat 32 j) = BitVec.ofBool (decide (d.toNat + j ≤ t)) := by
  have e : BitVec.ofNat 32 t - d = BitVec.ofNat 32 (t - d.toNat) := by
    apply BitVec.eq_of_toNat_eq
    simp only [BitVec.toNat_sub, BitVec.toNat_ofNat]
    omega
  have h1 : (BitVec.ofNat 32 (t - d.toNat)).toInt = ((t - d.toNat : Nat) : Int) := by
    rw [BitVec.toInt_ofNat']; simp only [Int.bmod]; omega
  have h2 : (BitVec.ofNat 32 j).toInt = (j : Int) := by
    rw [BitVec.toInt_ofNat']; simp only [Int.bmod]; omega
  rw [e]
  simp only [IntOp.cmpi, BitVec.sle, h1, h2]
  congr 1
  simp only [decide_eq_decide]
  omega

/-- A selection by a mask is the tap it stands for. -/
theorem select_tap (L : Fin 768 → EReal) (d : Nat) (t : Fin 768) (j : Nat) (c v : EReal)
    (h : d + j ≤ t.val → v = c * L ⟨t.val - j, by omega⟩) :
    Scalar.select (BitVec.ofBool (decide (d + j ≤ t.val))) v 0 = tap L d t j c := by
  unfold tap
  by_cases hd : d + j ≤ t.val
  · rw [if_pos hd, ← h hd]; simp [Scalar.select, hd]
  · rw [if_neg hd]; simp [Scalar.select, hd]

end Cert.ProjMath
-- ==== Proof.ProjLin.lean ====
module

public import proofs.«01_k».proof.Proof.Gen.ProjIdeal.Skeleton
public import proofs.«01_k».proof.Proof.ProjMath

@[expose] public section

set_option maxRecDepth 16384

noncomputable section

open Idealize.ShloMosaic Idealize.ShloMosaic.TcCoe Idealize.SL.Sem

/-!
# What one head's products and activations are

Two groups of 128 weight rows are dequantised into one buffer of 256 rows; the block of activations is multiplied with the
buffer, and each half of the product is stored, convolved or cut to its tails.
-/

namespace Cert.ProjIdeal.Value
open Cert.ProjIdeal Cert.ProjIdeal.Gen

/-- The projection of row `r` of the activations onto weight row `n` of a block. -/
abbrev linB {N : Nat} (x : FVec Ideal S1536x8192 .bf16) (w : FVec Ideal ⟨2, ![N, 8192]⟩ .fp8e4m3) (s : IVec ⟨2, ![N, 256]⟩ 8)
    (n : Fin N) (r : Fin 1536) : EReal :=
  ProjMath.dot Factor.bits (fun k => x (ix2 r k)) (fun k => w (ix2 n k)) (fun g => s (ix2 n g))

/-- The masked taps of the kernel at row `r`, whose distance to its document's start is `d`, and the activation. -/
def actAt (L : Fin 1536 → EReal) (d : BitVec 32) (c : Fin 4 → EReal) (r : Fin 1536) : EReal :=
  ProjMath.silu
    (Scalar.select (IntOp.cmpi .sge d 3#32) (c 0 * L ⟨(r.val + 1536 - 3) % 1536, Nat.mod_lt _ (by decide)⟩) 0
      + Scalar.select (IntOp.cmpi .sge d 2#32) (c 1 * L ⟨(r.val + 1536 - 2) % 1536, Nat.mod_lt _ (by decide)⟩) 0
      + Scalar.select (IntOp.cmpi .sge d 1#32) (c 2 * L ⟨(r.val + 1536 - 1) % 1536, Nat.mod_lt _ (by decide)⟩) 0
      + c 3 * L r)

/-- At time `t` of batch `b` that is the convolution along the document: the rows of a document lie in one batch. -/
theorem actAt_eq (L : Fin 1536 → EReal) (ds : BitVec 32) (c : Fin 4 → EReal) (b : Fin 2) (t : Fin 768) (hd : ds.toNat ≤ t.val) :
    actAt L (BitVec.ofNat 32 t.val - ds) c ⟨768 * b.val + t.val, by omega⟩
      = ProjMath.silu (ProjMath.conv (fun t' => L ⟨768 * b.val + t'.val, by omega⟩) ds.toNat c t) := by
  unfold actAt ProjMath.conv
  rw [show IntOp.cmpi .sge (BitVec.ofNat 32 t.val - ds) 3#32 = _ from ProjMath.mask_dist ds t.val 3 t.isLt hd (by decide),
    show IntOp.cmpi .sge (BitVec.ofNat 32 t.val - ds) 2#32 = _ from ProjMath.mask_dist ds t.val 2 t.isLt hd (by decide),
    show IntOp.cmpi .sge (BitVec.ofNat 32 t.val - ds) 1#32 = _ from ProjMath.mask_dist ds t.val 1 t.isLt hd (by decide)]
  refine congrArg ProjMath.silu (congrArg₂ (· + ·) (congrArg₂ (· + ·) (congrArg₂ (· + ·)
    (ProjMath.select_tap _ _ t 3 _ _ fun h => ?_) (ProjMath.select_tap _ _ t 2 _ _ fun h => ?_))
    (ProjMath.select_tap _ _ t 1 _ _ fun h => ?_)) rfl)
  all_goals exact congrArg (_ * L ·) (Fin.ext (by simp only; omega))

/-- The buffer of 256 dequantised rows, from two groups of 128. -/
def pair (wa : Fin 128 → Fin 8192 → EReal) (sa : Fin 128 → Fin 256 → BitVec 8) (wb : Fin 128 → Fin 8192 → EReal)
    (sb : Fin 128 → Fin 256 → BitVec 8) : FVec Ideal S256x8192 .bf16 := fun y =>
  if h : (y 0).val < 128 then
    (wa ⟨(y 0).val, h⟩ (y 1) * Factor.bits (sa ⟨(y 0).val, h⟩ ⟨(y 1).val / 32, by have := (y 1).isLt; simp at this; omega⟩) : EReal)
  else
    (wb ⟨(y 0).val - 128, by have := (y 0).isLt; simp at this; omega⟩ (y 1)
      * Factor.bits (sb ⟨(y 0).val - 128, by have := (y 0).isLt; simp at this; omega⟩ ⟨(y 1).val / 32, by have := (y 1).isLt; simp at this; omega⟩) : EReal)

theorem pair_first (wa sa wb sb) (n : Fin 128) (k : Fin 8192) :
    pair wa sa wb sb (ix2 ⟨n.val, by omega⟩ k) = (wa n k * Factor.bits (sa n ⟨k.val / 32, by omega⟩) : EReal) :=
  dif_pos (show n.val < 128 from n.isLt)

theorem pair_second (wa sa wb sb) (n : Fin 128) (k : Fin 8192) :
    pair wa sa wb sb (ix2 ⟨128 + n.val, by omega⟩ k) = (wb n k * Factor.bits (sb n ⟨k.val / 32, by omega⟩) : EReal) := by
  refine (dif_neg (show ¬128 + n.val < 128 by omega)).trans ?_
  have e : (⟨128 + n.val - 128, by omega⟩ : Fin 128) = n := Fin.ext (by simp only; omega)
  show (wb ⟨128 + n.val - 128, _⟩ k * Factor.bits (sb ⟨128 + n.val - 128, _⟩ _) : EReal) = _
  rw [e]
  rfl

theorem first_sum (x : FVec Ideal S1536x8192 .bf16) (w : FVec Ideal S256x8192 .bf16) (r : Fin 1536) (n : Fin 128) :
    (k0_pay376 x w : FVec Ideal S1536x128 .bf16) (ix2 r n)
      = (∑ k : Fin 8192, x (ix2 r k) * w (ix2 ⟨n.val, by omega⟩ k) : EReal) := by
  pointwise [k0_pay376, k0_pay375]

theorem second_sum (x : FVec Ideal S1536x8192 .bf16) (w : FVec Ideal S256x8192 .bf16) (r : Fin 1536) (n : Fin 128) :
    (k0_pay384 (k0_pay375 x w) : FVec Ideal S1536x128 .bf16) (ix2 r n)
      = (∑ k : Fin 8192, x (ix2 r k) * w (ix2 ⟨128 + n.val, by omega⟩ k) : EReal) := by
  pointwise [k0_pay384, k0_pay375]

/-- The first half of the product is the projection onto the first group's rows. -/
theorem first_apply (x : FVec Ideal S1536x8192 .bf16) (wa sa wb sb) (r : Fin 1536) (n : Fin 128) :
    (k0_pay376 x (pair wa sa wb sb) : FVec Ideal S1536x128 .bf16) (ix2 r n)
      = ProjMath.dot Factor.bits (fun k => x (ix2 r k)) (wa n) (sa n) :=
  (first_sum x _ r n).trans (Finset.sum_congr rfl fun k _ => congrArg (x (ix2 r k) * · : EReal → EReal) (pair_first wa sa wb sb n k))

/-- The second half is the projection onto the second group's. -/
theorem second_apply (x : FVec Ideal S1536x8192 .bf16) (wa sa wb sb) (r : Fin 1536) (n : Fin 128) :
    (k0_pay384 (k0_pay375 x (pair wa sa wb sb)) : FVec Ideal S1536x128 .bf16) (ix2 r n)
      = ProjMath.dot Factor.bits (fun k => x (ix2 r k)) (wb n) (sb n) :=
  (second_sum x _ r n).trans (Finset.sum_congr rfl fun k _ => congrArg (x (ix2 r k) * · : EReal → EReal) (pair_second wa sa wb sb n k))

/-- A half of the product, convolved and activated. -/
theorem act_apply (l : FVec Ideal S1536x128 .bf16) (d : IVec S1536x1 32) (c : FVec Ideal S4x128 .f32)
    (r : Fin 1536) (n : Fin 128) :
    (k0_pay747 d l c : FVec Ideal S1536x128 .bf16) (ix2 r n)
      = actAt (fun r' => l (ix2 r' n)) (d (ix2 r 0)) (fun j => c (ix2 j n)) r := by
  pointwise [k0_pay747]
  rfl

/-! The five activations are one computation, cut differently. -/

theorem act_q (x : FVec Ideal S1536x8192 .bf16) (w : FVec Ideal S256x8192 .bf16) (d : IVec S1536x1 32) (c : FVec Ideal S4x128 .f32) :
    k0_pay381 d (k0_pay377 c) (k0_pay378 x w) (k0_pay379 (F := Ideal)) (k0_pay380 d x w c) = k0_pay747 d (k0_pay376 x w) c := rfl

theorem act_k (l : FVec Ideal S1536x256 .bf16) (d : IVec S1536x1 32) (c : FVec Ideal S4x128 .f32) :
    k0_pay389 d (k0_pay385 c) (k0_pay386 l) (k0_pay387 (F := Ideal)) k0_pay388 = k0_pay747 d (k0_pay384 l) c := rfl

theorem act_v1 (l : FVec Ideal S1536x256 .bf16) (d : IVec S1536x1 32) (c : FVec Ideal S4x128 .f32) :
    k0_pay755 (k0_pay752 l) (k0_pay753 d l c) (k0_pay754 c) = k0_pay747 d (k0_pay384 l) c := rfl

theorem act_v2 (x : FVec Ideal S1536x8192 .bf16) (w : FVec Ideal S256x8192 .bf16) (d : IVec S1536x1 32) (c : FVec Ideal S4x128 .f32) :
    k0_pay1131 (k0_pay1125 c) (k0_pay1126 x w) (k0_pay1127 d x w c) (k0_pay1128 x w) (k0_pay1129 d) (k0_pay1130 (F := Ideal))
      = k0_pay747 d (k0_pay376 x w) c := rfl

end Cert.ProjIdeal.Value
-- ==== Proof.ProjTile.lean ====
module

public import proofs.«01_k».proof.Proof.ProjLin
public import Idealize.ShloMosaic.Lib.Pipeline.ValueKit
public import proofs.«01_k».proof.Proof.Lane

@[expose] public section

set_option maxRecDepth 16384

noncomputable section

open Idealize.ShloMosaic Idealize.ShloMosaic.TcCoe Idealize.SL.Sem

/-!
# One dequantised tile

A tile of 128 codes a row, each times the factor that its lane gathers from one half of the 256 factors of the row.
-/

namespace Cert.ProjIdeal.Value
open Cert.ProjIdeal Cert.ProjIdeal.Gen

/-- The tile whose first factor is number `j` of the half `g`. -/
abbrev tile (g : FVec Ideal S128x128 .f32) (c : FVec Ideal S128x128 .fp8e4m3) (j : BitVec 32) : FVec Ideal S128x128 .bf16 :=
  have v31 : IVec S128x128 32 := iota .tc S128x128 32 [1] iota_S128x128_d1_w32
  have v33 : IVec S128x128 32 := divsi v31 (broadcast S128x128 32#32)
  have v40 : IVec S128x128 32 := subi (extui 32 (cmpi .sgt v31 (broadcast S128x128 0#32)) natLt_1_32)
    (extui 32 (cmpi .slt v31 (broadcast S128x128 0#32)) natLt_1_32)
  have v45 : BitVec 32 := Scalar.subi (Scalar.extui (Scalar.cmpi .sgt 32#32 0#32)) (Scalar.extui (Scalar.cmpi .slt 32#32 0#32))
  have v52 : IVec S128x128 1 := andi (cmpi .ne v40 (broadcast S128x128 v45))
    (cmpi .ne (remsi v31 (broadcast S128x128 32#32)) (broadcast S128x128 0#32))
  have v55 : IVec S128x128 32 := select v52 (subi v33 (broadcast S128x128 1#32)) v33
  have v57 : IVec S128x128 32 := addi v55 (broadcast S128x128 j)
  have v63 : IVec S128x128 32 := select (cmpi .slt v57 (broadcast S128x128 0#32)) (addi v57 (broadcast S128x128 128#32)) v57
  have v64 : IVec S128x128x1 32 := shapeCast S128x128x1 v63 shapeCasts_S128x128_S128x128x1
  have v65 : IVec S128x128 32 := shapeCast S128x128 v64 shapeCasts_S128x128x1_S128x128
  have v66 : FVec Ideal S128x128 .f32 := dynamicGather 1 g v65
  shapeCast S128x128 (mulf (extf .bf16 c bitsLt_fp8e4m3_bf16) (truncf .bf16 v66 bitsLt_bf16_f32)) shapeCasts_S128x128_S128x128

theorem tile_apply (g : FVec Ideal S128x128 .f32) (c : FVec Ideal S128x128 .fp8e4m3) (j : Nat) (hj : j < 125) (n l : Fin 128) (q : Fin 128)
    (hq : q.val = l.val / 32 + j) :
    tile g c (BitVec.ofNat 32 j) (ix2 n l) = (c (ix2 n l) * g (ix2 n q) : EReal) := by
  pointwise [tile]
  refine congrArg (fun q' => (c (ix2 n l) * g (ix2 n q') : EReal)) (Fin.ext ?_)
  exact (Lane.word_val l.val j l.isLt hj).trans hq.symm

abbrev lo (f : FVec Ideal S128x256 .f32) : FVec Ideal S128x128 .f32 := extractStridedSlice S128x128 ![0, 0] f slices_S128x256_o0_0_S128x128
abbrev hi (f : FVec Ideal S128x256 .f32) : FVec Ideal S128x128 .f32 := extractStridedSlice S128x128 ![0, 128] f slices_S128x256_o0_128_S128x128

theorem lo_apply (f : FVec Ideal S128x256 .f32) (n q : Fin 128) : lo f (ix2 n q) = (f (ix2 n ⟨q.val, by omega⟩) : EReal) := by
  pointwise

theorem hi_apply (f : FVec Ideal S128x256 .f32) (n q : Fin 128) : hi f (ix2 n q) = (f (ix2 n ⟨128 + q.val, by omega⟩) : EReal) := by
  pointwise

section
variable (wa : Fin 128 → Fin 8192 → EReal) (sa : Fin 128 → Fin 256 → BitVec 8) (wb : Fin 128 → Fin 8192 → EReal)
  (sb : Fin 128 → Fin 256 → BitVec 8) (y : S256x8192.Idx) (x : S128x128.Idx) (g : FVec Ideal S128x128 .f32)
  (c : FVec Ideal S128x128 .fp8e4m3) (j B : Nat)

/-- A tile of the first group's rows is the buffer there: `B` is the half's first factor. -/
theorem tile_first (hg : ∀ n q q', q'.val = B + q.val → g (ix2 n q) = Factor.bits (sa n q'))
    (hc : ∀ n l k, k.val = 32 * B + 32 * j + l.val → c (ix2 n l) = wa n k)
    (hj : j < 125) (h0 : (y 0).val = (x 0).val) (h1 : (y 1).val = 32 * B + 32 * j + (x 1).val) :
    tile g c (BitVec.ofNat 32 j) x = pair wa sa wb sb y := by
  obtain ⟨n, l, rfl⟩ : ∃ (n l : Fin 128), x = ix2 n l := ⟨x 0, x 1, eq_ix2 x⟩
  obtain ⟨a, k, rfl⟩ : ∃ (a : Fin 256) (k : Fin 8192), y = ix2 a k := ⟨y 0, y 1, eq_ix2 y⟩
  change a.val = n.val at h0
  change k.val = 32 * B + 32 * j + l.val at h1
  have hn := n.isLt
  have hl := l.isLt
  have hk := k.isLt
  refine (tile_apply g c j hj n l ⟨l.val / 32 + j, by omega⟩ rfl).trans ?_
  rw [hg _ _ ⟨k.val / 32, by omega⟩ (by simp only; omega), hc _ _ k h1]
  rw [show a = ⟨n.val, by omega⟩ from Fin.ext h0]
  exact (pair_first wa sa wb sb n k).symm

/-- A tile of the second group's rows likewise. -/
theorem tile_second (hg : ∀ n q q', q'.val = B + q.val → g (ix2 n q) = Factor.bits (sb n q'))
    (hc : ∀ n l k, k.val = 32 * B + 32 * j + l.val → c (ix2 n l) = wb n k)
    (hj : j < 125) (h0 : (y 0).val = 128 + (x 0).val) (h1 : (y 1).val = 32 * B + 32 * j + (x 1).val) :
    tile g c (BitVec.ofNat 32 j) x = pair wa sa wb sb y := by
  obtain ⟨n, l, rfl⟩ : ∃ (n l : Fin 128), x = ix2 n l := ⟨x 0, x 1, eq_ix2 x⟩
  obtain ⟨a, k, rfl⟩ : ∃ (a : Fin 256) (k : Fin 8192), y = ix2 a k := ⟨y 0, y 1, eq_ix2 y⟩
  change a.val = 128 + n.val at h0
  change k.val = 32 * B + 32 * j + l.val at h1
  have hn := n.isLt
  have hl := l.isLt
  have hk := k.isLt
  refine (tile_apply g c j hj n l ⟨l.val / 32 + j, by omega⟩ rfl).trans ?_
  rw [hg _ _ ⟨k.val / 32, by omega⟩ (by simp only; omega), hc _ _ k h1]
  rw [show a = ⟨128 + n.val, by omega⟩ from Fin.ext h0]
  exact (pair_second wa sa wb sb n k).symm

end

/-! The factors and the codes that a tile reads. -/

theorem lo_bits (f : FVec Ideal S128x256 .f32) (s : Fin 128 → Fin 256 → BitVec 8) (h : ∀ n q, f (ix2 n q) = Factor.bits (s n q))
    (n q : Fin 128) (q' : Fin 256) (hq : q'.val = 0 + q.val) : lo f (ix2 n q) = Factor.bits (s n q') := by
  rw [lo_apply, h]
  exact congrArg (fun a => Factor.bits (s n a)) (Fin.ext (by simp only; omega))

theorem hi_bits (f : FVec Ideal S128x256 .f32) (s : Fin 128 → Fin 256 → BitVec 8) (h : ∀ n q, f (ix2 n q) = Factor.bits (s n q))
    (n q : Fin 128) (q' : Fin 256) (hq : q'.val = 128 + q.val) : hi f (ix2 n q) = Factor.bits (s n q') := by
  rw [hi_apply, h]
  exact congrArg (fun a => Factor.bits (s n a)) (Fin.ext (by simp only; omega))

theorem bits_q (s : IVec S128x256 8) (n : Fin 128) (q : Fin 256) :
    (k0_pay2 s : FVec Ideal S128x256 .f32) (ix2 n q) = Factor.bits (s (ix2 n q)) := by pointwise [k0_pay2, Factor.bits]

theorem bits_k (s : IVec S128x256 8) (n : Fin 128) (q : Fin 256) :
    (k0_pay3 s : FVec Ideal S128x256 .f32) (ix2 n q) = Factor.bits (s (ix2 n q)) := by pointwise [k0_pay3, Factor.bits]

/-- 128 rows of codes, from row `o` on. -/
abbrev rowsF (X : FVec Ideal S384x8192 .fp8e4m3) (o : Nat) (ho : o + 128 ≤ 384) : Fin 128 → Fin 8192 → EReal :=
  fun n k => X (ix2 ⟨o + n.val, by omega⟩ k)

/-- The scale bytes of those rows. -/
abbrev rowsS (s : IVec S384x256 8) (o : Nat) (ho : o + 128 ≤ 384) : Fin 128 → Fin 256 → BitVec 8 :=
  fun n q => s (ix2 ⟨o + n.val, by omega⟩ q)

theorem bits_v0 (s : IVec S384x256 8) (n : Fin 128) (q : Fin 256) :
    (k0_pay392 (k0_pay4 s) : FVec Ideal S128x256 .f32) (ix2 n q) = Factor.bits (rowsS s 0 (by decide) n q) := by
  pointwise [k0_pay392, k0_pay4, Factor.bits, rowsS]

theorem bits_v1 (s : IVec S384x256 8) (n : Fin 128) (q : Fin 256) :
    (k0_pay565 (k0_pay4 s) : FVec Ideal S128x256 .f32) (ix2 n q) = Factor.bits (rowsS s 128 (by decide) n q) := by
  pointwise [k0_pay565, k0_pay4, Factor.bits, rowsS]

theorem bits_v2 (s : IVec S384x256 8) (n : Fin 128) (q : Fin 256) :
    (k0_pay758 (k0_pay4 s) : FVec Ideal S128x256 .f32) (ix2 n q) = Factor.bits (rowsS s 256 (by decide) n q) := by
  pointwise [k0_pay758, k0_pay4, Factor.bits, rowsS]

theorem bits_g0 (s : IVec S384x256 8) (n : Fin 128) (q : Fin 256) :
    (k0_pay942 (k0_pay5 s) : FVec Ideal S128x256 .f32) (ix2 n q) = Factor.bits (rowsS s 0 (by decide) n q) := by
  pointwise [k0_pay942, k0_pay5, Factor.bits, rowsS]

theorem bits_g1 (s : IVec S384x256 8) (n : Fin 128) (q : Fin 256) :
    (k0_pay1135 (k0_pay5 s) : FVec Ideal S128x256 .f32) (ix2 n q) = Factor.bits (rowsS s 128 (by decide) n q) := by
  pointwise [k0_pay1135, k0_pay5, Factor.bits, rowsS]

theorem bits_g2 (s : IVec S384x256 8) (n : Fin 128) (q : Fin 256) :
    (k0_pay1319 (k0_pay5 s) : FVec Ideal S128x256 .f32) (ix2 n q) = Factor.bits (rowsS s 256 (by decide) n q) := by
  pointwise [k0_pay1319, k0_pay5, Factor.bits, rowsS]

/-! ## The stores of one pass over the buffer -/

/-- What the latest `n` stores say where they cover is what the buffer holds there. -/
theorem canon_take {Val : EltTy → Type} {S : Shape} {e : EltTy} [∀ e, Nonempty (Val e)] (n : Nat) :
    ∀ (L : List (View.Piece Val S e)) (y : S.Idx) (v : Val e), (∃ p ∈ L.take n, y ∈ p.1.set) → View.AllAt (L.take n) y v →
      View.canon L y = v := by
  induction n with
  | zero =>
    intro L y v hc _
    obtain ⟨p, hp, _⟩ := hc
    simp at hp
  | succ n ih =>
    intro L y v hc h
    cases L with
    | nil => obtain ⟨p, hp, _⟩ := hc; simp at hp
    | cons p L =>
      rw [List.take_succ_cons] at hc h
      by_cases hm : y ∈ p.1.set
      · obtain ⟨x, rfl⟩ := p.1.exists_idx_of_mem hm
        rw [show p.1.idx x = p.1.emb x from rfl, View.canon_cons_emb]
        exact h p List.mem_cons_self x rfl
      · rw [View.canon_cons_of_not_mem _ _ hm]
        refine ih L y v ?_ fun q hq => h q (List.mem_cons_of_mem _ hq)
        obtain ⟨q, hq, hyq⟩ := hc
        rcases List.mem_cons.mp hq with rfl | hq'
        · exact absurd hyq hm
        · exact ⟨q, hq', hyq⟩

/-- A load of the whole buffer is what the stores made of it. -/
theorem readCov_of {sig : RefSig} {κ : Kind} {sp : Space} (v : View sig κ sp S256x8192 .bf16)
    (L : List (View.Piece (Elt Ideal) S256x8192 .bf16)) (G : FVec Ideal S256x8192 .bf16) (inb)
    (h : ∀ y, View.canon L y = G y) :
    v.readCov L (Rect.unit (s := S256x8192) ![0, 0] ![256, 8192] inb).toLoadRect = G := by
  rw [View.readCov_eq_canon']
  funext y
  refine (h _).trans (congrArg G ?_)
  funext a
  refine Fin.ext ?_
  show ![0, 0] a + 1 * (y a).val = (y a).val
  fin_cases a <;> simp

section
variable (wa : Fin 128 → Fin 8192 → EReal) (sa : Fin 128 → Fin 256 → BitVec 8) (wb : Fin 128 → Fin 8192 → EReal)
  (sb : Fin 128 → Fin 256 → BitVec 8) (y : S256x8192.Idx)

/-- One store of a first group's tile, and the stores before it. -/
theorem step_first {N : Nat} (X : FVec Ideal ⟨2, ![N, 8192]⟩ .fp8e4m3) (o B k : Nat) {g : FVec Ideal S128x128 .f32} {j : Nat}
    {off off' : Fin 2 → Nat} {inb inb'} {w : FVec Ideal S128x128 .bf16} {L : List (View.Piece (Elt Ideal) S256x8192 .bf16)}
    (hw : w = tile g (View.ld (Val := Elt Ideal) (e' := .fp8e4m3) X (Rect.unit (s := ⟨2, ![N, 8192]⟩) off' ![128, 128] inb')) (BitVec.ofNat 32 j))
    (hg : ∀ n q q', q'.val = B + q.val → g (ix2 n q) = Factor.bits (sa n q'))
    (hX : ∀ (n : Fin 128) (i : Fin N) k, i.val = o + n.val → X (ix2 i k) = wa n k)
    (ho : o + 128 ≤ N) (hj : j < 125) (h0 : off 0 = 0) (h1 : off 1 = 32 * B + 32 * j) (h0' : off' 0 = o) (h1' : off' 1 = 32 * B + 32 * j)
    (h : View.AllAt (L.take k) y (pair wa sa wb sb y)) :
    View.AllAt (List.take (k + 1) ((⟨Rect.unit (s := S256x8192) off ![128, 128] inb, w⟩ : View.Piece (Elt Ideal) S256x8192 .bf16) :: L)) y
      (pair wa sa wb sb y) := by
  rw [List.take_succ_cons]
  refine View.allAt_cons_unit off ![128, 128] inb w _ (fun x hx => ?_) h
  rw [hw]
  refine tile_first wa sa wb sb y x g _ j B hg (fun n l k hk => ?_) hj ((hx 0).trans (by rw [h0, Nat.zero_add])) ((hx 1).trans (by rw [h1]))
  refine Eq.trans ?_ (hX n ⟨o + n.val, by omega⟩ k rfl)
  refine View.ld_unit_apply_of (Val := Elt Ideal) (e := .fp8e4m3) X off' ![128, 128] inb' (ix2 n l) (ix2 ⟨o + n.val, by omega⟩ k) fun a => ?_
  fin_cases a
  · exact congrArg (· + n.val) h0'.symm
  · exact hk.trans (congrArg (· + l.val) h1'.symm)

/-- One store of a second group's tile, and the stores before it. -/
theorem step_second {N : Nat} (X : FVec Ideal ⟨2, ![N, 8192]⟩ .fp8e4m3) (o B k : Nat) {g : FVec Ideal S128x128 .f32} {j : Nat}
    {off off' : Fin 2 → Nat} {inb inb'} {w : FVec Ideal S128x128 .bf16} {L : List (View.Piece (Elt Ideal) S256x8192 .bf16)}
    (hw : w = tile g (View.ld (Val := Elt Ideal) (e' := .fp8e4m3) X (Rect.unit (s := ⟨2, ![N, 8192]⟩) off' ![128, 128] inb')) (BitVec.ofNat 32 j))
    (hg : ∀ n q q', q'.val = B + q.val → g (ix2 n q) = Factor.bits (sb n q'))
    (hX : ∀ (n : Fin 128) (i : Fin N) k, i.val = o + n.val → X (ix2 i k) = wb n k)
    (ho : o + 128 ≤ N) (hj : j < 125) (h0 : off 0 = 128) (h1 : off 1 = 32 * B + 32 * j) (h0' : off' 0 = o) (h1' : off' 1 = 32 * B + 32 * j)
    (h : View.AllAt (L.take k) y (pair wa sa wb sb y)) :
    View.AllAt (List.take (k + 1) ((⟨Rect.unit (s := S256x8192) off ![128, 128] inb, w⟩ : View.Piece (Elt Ideal) S256x8192 .bf16) :: L)) y
      (pair wa sa wb sb y) := by
  rw [List.take_succ_cons]
  refine View.allAt_cons_unit off ![128, 128] inb w _ (fun x hx => ?_) h
  rw [hw]
  refine tile_second wa sa wb sb y x g _ j B hg (fun n l k hk => ?_) hj ((hx 0).trans (by rw [h0])) ((hx 1).trans (by rw [h1]))
  refine Eq.trans ?_ (hX n ⟨o + n.val, by omega⟩ k rfl)
  refine View.ld_unit_apply_of (Val := Elt Ideal) (e := .fp8e4m3) X off' ![128, 128] inb' (ix2 n l) (ix2 ⟨o + n.val, by omega⟩ k) fun a => ?_
  fin_cases a
  · exact congrArg (· + n.val) h0'.symm
  · exact hk.trans (congrArg (· + l.val) h1'.symm)

end

end Cert.ProjIdeal.Value
-- ==== Proof.ProjPart.lean ====
module

public import proofs.«01_k».proof.Proof.ProjTile

@[expose] public section

set_option maxRecDepth 16384

noncomputable section

open Idealize.ShloMosaic Idealize.ShloMosaic.TcCoe Idealize.SL.Sem

/-!
# One part of an output block

A block of an output is stored in parts of 128 columns. `L n r` is the projection's element of column `n` and row `r`; a
part's columns start at `o`.
-/

namespace Cert.ProjIdeal.Value
open Cert.ProjIdeal Cert.ProjIdeal.Gen

/-- The row of the batch that row `r` of a tail block is: the last eight positions of each sequence. -/
abbrev tailRow (r : Fin 16) : Fin 1536 := ⟨768 * (r.val / 8) + 760 + r.val % 8, by omega⟩

theorem dist_apply (d : IVec S1536x1 32) (r : Fin 1536) : (k0_pay6 (F := Ideal) d : IVec S1536x1 32) (ix2 r 0) = d (ix2 r 0) := by
  pointwise [k0_pay6]

variable {N : Nat} (L : Fin N → Fin 1536 → EReal) (l : FVec Ideal S1536x128 .bf16) (o : Nat) (ho : o + 128 ≤ N)

/-- A part stored as it is. -/
theorem lin_part (hl : ∀ (r : Fin 1536) (b : Fin 128), l (ix2 r b) = L ⟨o + b.val, by omega⟩ r) (r : Fin 1536) (n : Fin N)
    (x : S1536x128.Idx) (h0 : r.val = (x 0).val) (h1 : n.val = o + (x 1).val) : l x = L n r := by
  obtain ⟨a, b, rfl⟩ : ∃ (a : Fin 1536) (b : Fin 128), x = ix2 a b := ⟨x 0, x 1, eq_ix2 x⟩
  obtain rfl : r = a := Fin.ext h0
  obtain rfl : n = ⟨o + b.val, Nat.lt_of_lt_of_le (Nat.add_lt_add_left b.isLt o) ho⟩ := Fin.ext h1
  exact hl r b

/-- The last rows of a part: the first sequence's. -/
theorem tail_part_first (hl : ∀ (r : Fin 1536) (b : Fin 128), l (ix2 r b) = L ⟨o + b.val, by omega⟩ r) (r : Fin 16) (n : Fin N)
    (x : S8x128.Idx) (h0 : r.val = (x 0).val) (h1 : n.val = o + (x 1).val) :
    (k0_pay382 l : FVec Ideal S8x128 .bf16) x = L n (tailRow r) := by
  obtain ⟨a, b, rfl⟩ : ∃ (a : Fin 8) (b : Fin 128), x = ix2 a b := ⟨x 0, x 1, eq_ix2 x⟩
  change r.val = a.val at h0
  obtain rfl : n = ⟨o + b.val, Nat.lt_of_lt_of_le (Nat.add_lt_add_left b.isLt o) ho⟩ := Fin.ext h1
  have e : (k0_pay382 l : FVec Ideal S8x128 .bf16) (ix2 a b) = (l (ix2 ⟨760 + a.val, by omega⟩ b) : EReal) := by
    pointwise [k0_pay382]
  rw [e, hl]
  exact congrArg (L _) (Fin.ext (by simp only; omega))

/-- The second sequence's. -/
theorem tail_part_second (hl : ∀ (r : Fin 1536) (b : Fin 128), l (ix2 r b) = L ⟨o + b.val, by omega⟩ r) (r : Fin 16) (n : Fin N)
    (x : S8x128.Idx) (h0 : r.val = 8 + (x 0).val) (h1 : n.val = o + (x 1).val) :
    (k0_pay383 l : FVec Ideal S8x128 .bf16) x = L n (tailRow r) := by
  obtain ⟨a, b, rfl⟩ : ∃ (a : Fin 8) (b : Fin 128), x = ix2 a b := ⟨x 0, x 1, eq_ix2 x⟩
  change r.val = 8 + a.val at h0
  obtain rfl : n = ⟨o + b.val, Nat.lt_of_lt_of_le (Nat.add_lt_add_left b.isLt o) ho⟩ := Fin.ext h1
  have e : (k0_pay383 l : FVec Ideal S8x128 .bf16) (ix2 a b) = (l (ix2 ⟨1528 + a.val, by omega⟩ b) : EReal) := by
    pointwise [k0_pay383]
  rw [e, hl]
  exact congrArg (L _) (Fin.ext (by simp only; omega))

/-- A part put through the filter. -/
theorem act_part (cv : FVec Ideal ⟨2, ![4, N]⟩ .f32) (d : IVec S1536x1 32)
    (hl : ∀ (r : Fin 1536) (b : Fin 128), l (ix2 r b) = L ⟨o + b.val, by omega⟩ r)
    (off : Fin 2 → Nat) (inb) (ho0 : off 0 = 0) (ho1 : off 1 = o) (r : Fin 1536) (n : Fin N) (x : S1536x128.Idx)
    (h0 : r.val = (x 0).val) (h1 : n.val = o + (x 1).val) :
    (k0_pay747 (k0_pay6 (F := Ideal) d) l (View.ld (Val := Elt Ideal) (e' := .f32) cv (Rect.unit (s := ⟨2, ![4, N]⟩) off ![4, 128] inb)) : FVec Ideal S1536x128 .bf16) x
      = actAt (fun r' => L n r') (d (ix2 r 0)) (fun j => cv (ix2 j n)) r := by
  obtain ⟨a, b, rfl⟩ : ∃ (a : Fin 1536) (b : Fin 128), x = ix2 a b := ⟨x 0, x 1, eq_ix2 x⟩
  obtain rfl : r = a := Fin.ext h0
  obtain rfl : n = ⟨o + b.val, Nat.lt_of_lt_of_le (Nat.add_lt_add_left b.isLt o) ho⟩ := Fin.ext h1
  refine (act_apply l _ _ r b).trans ?_
  rw [dist_apply]
  have e1 : (fun r' : Fin 1536 => (l (ix2 r' b) : EReal)) = fun r' => L ⟨o + b.val, by omega⟩ r' := funext fun r' => hl r' b
  have e2 : (fun j : Fin 4 => (View.ld (Val := Elt Ideal) (e' := .f32) cv (Rect.unit (s := ⟨2, ![4, N]⟩) off ![4, 128] inb) (ix2 j b) : EReal))
      = fun j => cv (ix2 j ⟨o + b.val, by omega⟩) := funext fun j => by
    refine View.ld_unit_apply_of (Val := Elt Ideal) (e := .f32) cv off ![4, 128] inb (ix2 j b) (ix2 j ⟨o + b.val, by omega⟩) fun a => ?_
    fin_cases a
    · exact (Nat.zero_add _).symm.trans (congrArg (· + j.val) ho0.symm)
    · exact congrArg (· + b.val) ho1.symm
  exact congrArg₂ (fun f g => actAt f (d (ix2 r 0)) g r) e1 e2

end Cert.ProjIdeal.Value
-- ==== Proof.ProjArray.lean ====
module

public import proofs.«01_k».proof.Proof.Gen.ProjIdeal.Frame
public import Idealize.ShloMosaic.Lib.Pipeline.ValueKit
public import proofs.«01_k».proof.Proof.ProjPart

@[expose] public section

set_option maxRecDepth 16384

noncomputable section

open Idealize.ShloMosaic Idealize.ShloMosaic.TcCoe Idealize.SL.Sem
open Idealize.ShloMosaic.Pipeline (Dat)

/-!
# What a point of the projections reads

Point `t` is head `t`: it reads the head's rows of the weights, of their scale bytes and of the convolutions. The arrays
the results will be shown to be are stated here.
-/

namespace Cert.ProjIdeal.Value
open Cert.ProjIdeal Cert.ProjIdeal.Gen

variable (m : (ℓ : Loc nD τ sig) → Buf (Elt Ideal) ℓ)

/-- The block indices of the twenty windows at point `t`. -/
theorem idx : ∀ t : Fin cfg0.N, (win0_0.index t = ![0, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![0, t.val]
    ∧ win0_11.index t = ![0, t.val] ∧ win0_12.index t = ![0, t.val]) ∧ (win0_13.index t = ![0, t.val] ∧ win0_14.index t = ![0, t.val]
    ∧ win0_15.index t = ![0, t.val] ∧ win0_16.index t = ![0, t.val] ∧ win0_17.index t = ![0, t.val] ∧ win0_18.index t = ![0, t.val]
    ∧ win0_19.index t = ![0, t.val]) ∧ t.val < 40 :=
  (by decide +kernel : ∀ t : Fin grid0.N, _)

/-- The batch of a row, and its time. -/
abbrev bat (r : Fin 1536) : Fin 2 := ⟨r.val / 768, by omega⟩
abbrev tim (r : Fin 1536) : Fin 768 := ⟨r.val % 768, by omega⟩

/-! ## What the host prepares -/

/-- Two leading axes taken as one, at an index; `r` is the row `j` of batch `i`. -/
theorem merge_apply {α : Type} {p a b q : Nat} (x : (⟨3, ![p, a, b]⟩ : Shape).Idx → α)
    (h : (⟨3, ![p, a, b]⟩ : Shape).ShapeCasts ⟨2, ![q, b]⟩) (i : Fin p) (j : Fin a) (k : Fin b) (r : Fin q)
    (hr : r.val = i.val * a + j.val) : shapeCast ⟨2, ![q, b]⟩ x h (ix2 r k) = x (ix3 i j k) :=
  shapeCast_apply x h _ _ (by
    rw [Shape.rowMajor_val_three, Shape.rowMajor_val_two]
    show (i.val * a + j.val) * b + k.val = r.val * b + k.val
    rw [hr])

/-- One axis taken as two, at an index. -/
theorem split_apply {α : Type} {p a b q : Nat} (x : (⟨2, ![q, b]⟩ : Shape).Idx → α)
    (h : (⟨2, ![q, b]⟩ : Shape).ShapeCasts ⟨3, ![p, a, b]⟩) (i : Fin p) (j : Fin a) (k : Fin b) (r : Fin q)
    (hr : r.val = i.val * a + j.val) : shapeCast ⟨3, ![p, a, b]⟩ x h (ix3 i j k) = x (ix2 r k) :=
  shapeCast_apply x h _ _ (by
    rw [Shape.rowMajor_val_three, Shape.rowMajor_val_two]
    show r.val * b + k.val = (i.val * a + j.val) * b + k.val
    rw [hr])

theorem rows (c : Dev nD) : (V m c main_v0 : FVec Ideal S1536x8192 .bf16)
    = shapeCast S1536x8192 (m ((c : Thread nD τ).loc main_arg0) : FVec Ideal S2x768x8192 .bf16) shapeCasts_S2x768x8192_S1536x8192 := by
  rfl

theorem rows_apply (c : Dev nD) (r : Fin 1536) (k : Fin 8192) : (V m c main_v0 : FVec Ideal S1536x8192 .bf16) (ix2 r k)
    = (m ((c : Thread nD τ).loc main_arg0) : FVec Ideal S2x768x8192 .bf16) (ix3 (bat r) (tim r) k) := by
  rw [rows]
  exact merge_apply _ _ (bat r) (tim r) k r (by show r.val = r.val / 768 * 768 + r.val % 768; omega)

theorem dists (c : Dev nD) : (V m c main_v5 : IVec S1536x1 32)
    = shapeCast S1536x1 (subi (broadcastInDim S2x768 ![0, 1] bcast_S1x768_S2x768_0_1 (broadcastInDim S1x768 ![1] bcast_S768_S1x768_1 (iotaInDim S768 32 0)))
        (m ((c : Thread nD τ).loc main_arg1) : IVec S2x768 32)) shapeCasts_S2x768_S1536x1 := by
  rfl

theorem dists_apply (c : Dev nD) (r : Fin 1536) : (V m c main_v5 : IVec S1536x1 32) (ix2 r 0)
    = BitVec.ofNat 32 (tim r).val - (m ((c : Thread nD τ).loc main_arg1) : IVec S2x768 32) (ix2 (bat r) (tim r)) := by
  rw [dists]
  pointwise
  rfl

theorem conv_a (c : Dev nD) (j : Fin 4) (o : Fin 5120) : (V m c main_v6 : FVec Ideal S4x5120 .f32) (ix2 j o)
    = (m ((c : Thread nD τ).loc main_arg10) : FVec Ideal S5120x4 .f32) (ix2 o j) := by
  rw [show (V m c main_v6 : FVec Ideal S4x5120 .f32) = transpose S4x5120 [1, 0] (m ((c : Thread nD τ).loc main_arg10) : FVec Ideal S5120x4 .f32)
    transposes_S5120x4_S4x5120_1_0 from rfl]
  pointwise

theorem conv_b (c : Dev nD) (j : Fin 4) (o : Fin 5120) : (V m c main_v7 : FVec Ideal S4x5120 .f32) (ix2 j o)
    = (m ((c : Thread nD τ).loc main_arg11) : FVec Ideal S5120x4 .f32) (ix2 o j) := by
  rw [show (V m c main_v7 : FVec Ideal S4x5120 .f32) = transpose S4x5120 [1, 0] (m ((c : Thread nD τ).loc main_arg11) : FVec Ideal S5120x4 .f32)
    transposes_S5120x4_S4x5120_1_0 from rfl]
  pointwise

theorem conv_c (c : Dev nD) (j : Fin 4) (o : Fin 15360) : (V m c main_v8 : FVec Ideal S4x15360 .f32) (ix2 j o)
    = (m ((c : Thread nD τ).loc main_arg12) : FVec Ideal S15360x4 .f32) (ix2 o j) := by
  rw [show (V m c main_v8 : FVec Ideal S4x15360 .f32) = transpose S4x15360 [1, 0] (m ((c : Thread nD τ).loc main_arg12) : FVec Ideal S15360x4 .f32)
    transposes_S15360x4_S4x15360_1_0 from rfl]
  pointwise

/-! ## The blocks of a point -/

theorem x_blk (c : Dev nD) (t : Fin cfg0.N) (r : Fin 1536) (k : Fin 8192) : (iblk m c 0 t : FVec Ideal S1536x8192 .bf16) (ix2 r k)
    = (m ((c : Thread nD τ).loc main_arg0) : FVec Ideal S2x768x8192 .bf16) (ix3 (bat r) (tim r) k) := by
  refine Eq.trans ?_ (rows_apply m c r k)
  have e : (win0_0.blk t).view.emb (ix2 r k) = (ix2 r k : S1536x8192.Idx) := by
    blk_ext [idx t]
  exact congrArg (V m c main_v0 : FVec Ideal S1536x8192 .bf16) e

theorem d_blk (c : Dev nD) (t : Fin cfg0.N) (r : Fin 1536) : (iblk m c 1 t : IVec S1536x1 32) (ix2 r 0)
    = BitVec.ofNat 32 (tim r).val - (m ((c : Thread nD τ).loc main_arg1) : IVec S2x768 32) (ix2 (bat r) (tim r)) := by
  refine Eq.trans ?_ (dists_apply m c r)
  have e : (win0_1.blk t).view.emb (ix2 r 0) = (ix2 r 0 : S1536x1.Idx) := by
    blk_ext [idx t]
  exact congrArg (V m c main_v5 : IVec S1536x1 32) e

/-- Column `n` of head `t`. -/
abbrev colQ (t : Fin cfg0.N) (n : Fin 128) : Fin 5120 := ⟨t.val * 128 + n.val, by have := (idx t).2.2; omega⟩
abbrev colV (t : Fin cfg0.N) (n : Fin 384) : Fin 15360 := ⟨t.val * 384 + n.val, by have := (idx t).2.2; omega⟩

theorem wq_blk (c : Dev nD) (t : Fin cfg0.N) (n : Fin 128) (k : Fin 8192) : (iblk m c 2 t : FVec Ideal S128x8192 .fp8e4m3) (ix2 n k)
    = (m ((c : Thread nD τ).loc main_arg2) : FVec Ideal S5120x8192 .fp8e4m3) (ix2 (colQ t n) k) := by
  have e : (win0_2.blk t).view.emb (ix2 n k) = (ix2 (colQ t n) k : S5120x8192.Idx) := by
    blk_ext [idx t]
  exact (congrArg (V m c main_arg2 : FVec Ideal S5120x8192 .fp8e4m3) e).trans (congrFun (V_main_arg2 m c) _)

theorem wk_blk (c : Dev nD) (t : Fin cfg0.N) (n : Fin 128) (k : Fin 8192) : (iblk m c 3 t : FVec Ideal S128x8192 .fp8e4m3) (ix2 n k)
    = (m ((c : Thread nD τ).loc main_arg3) : FVec Ideal S5120x8192 .fp8e4m3) (ix2 (colQ t n) k) := by
  have e : (win0_3.blk t).view.emb (ix2 n k) = (ix2 (colQ t n) k : S5120x8192.Idx) := by
    blk_ext [idx t]
  exact (congrArg (V m c main_arg3 : FVec Ideal S5120x8192 .fp8e4m3) e).trans (congrFun (V_main_arg3 m c) _)

theorem wv_blk (c : Dev nD) (t : Fin cfg0.N) (n : Fin 384) (k : Fin 8192) : (iblk m c 4 t : FVec Ideal S384x8192 .fp8e4m3) (ix2 n k)
    = (m ((c : Thread nD τ).loc main_arg6) : FVec Ideal S15360x8192 .fp8e4m3) (ix2 (colV t n) k) := by
  have e : (win0_4.blk t).view.emb (ix2 n k) = (ix2 (colV t n) k : S15360x8192.Idx) := by
    blk_ext [idx t]
  exact (congrArg (V m c main_arg6 : FVec Ideal S15360x8192 .fp8e4m3) e).trans (congrFun (V_main_arg6 m c) _)

theorem wg_blk (c : Dev nD) (t : Fin cfg0.N) (n : Fin 384) (k : Fin 8192) : (iblk m c 5 t : FVec Ideal S384x8192 .fp8e4m3) (ix2 n k)
    = (m ((c : Thread nD τ).loc main_arg7) : FVec Ideal S15360x8192 .fp8e4m3) (ix2 (colV t n) k) := by
  have e : (win0_5.blk t).view.emb (ix2 n k) = (ix2 (colV t n) k : S15360x8192.Idx) := by
    blk_ext [idx t]
  exact (congrArg (V m c main_arg7 : FVec Ideal S15360x8192 .fp8e4m3) e).trans (congrFun (V_main_arg7 m c) _)

theorem sq_blk (c : Dev nD) (t : Fin cfg0.N) (n : Fin 128) (k : Fin 256) : (iblk m c 6 t : IVec S128x256 8) (ix2 n k)
    = (m ((c : Thread nD τ).loc main_arg4) : IVec S5120x256 8) (ix2 (colQ t n) k) := by
  have e : (win0_6.blk t).view.emb (ix2 n k) = (ix2 (colQ t n) k : S5120x256.Idx) := by
    blk_ext [idx t]
  exact (congrArg (V m c main_arg4 : IVec S5120x256 8) e).trans (congrFun (V_main_arg4 m c) _)

theorem sk_blk (c : Dev nD) (t : Fin cfg0.N) (n : Fin 128) (k : Fin 256) : (iblk m c 7 t : IVec S128x256 8) (ix2 n k)
    = (m ((c : Thread nD τ).loc main_arg5) : IVec S5120x256 8) (ix2 (colQ t n) k) := by
  have e : (win0_7.blk t).view.emb (ix2 n k) = (ix2 (colQ t n) k : S5120x256.Idx) := by
    blk_ext [idx t]
  exact (congrArg (V m c main_arg5 : IVec S5120x256 8) e).trans (congrFun (V_main_arg5 m c) _)

theorem sv_blk (c : Dev nD) (t : Fin cfg0.N) (n : Fin 384) (k : Fin 256) : (iblk m c 8 t : IVec S384x256 8) (ix2 n k)
    = (m ((c : Thread nD τ).loc main_arg8) : IVec S15360x256 8) (ix2 (colV t n) k) := by
  have e : (win0_8.blk t).view.emb (ix2 n k) = (ix2 (colV t n) k : S15360x256.Idx) := by
    blk_ext [idx t]
  exact (congrArg (V m c main_arg8 : IVec S15360x256 8) e).trans (congrFun (V_main_arg8 m c) _)

theorem sg_blk (c : Dev nD) (t : Fin cfg0.N) (n : Fin 384) (k : Fin 256) : (iblk m c 9 t : IVec S384x256 8) (ix2 n k)
    = (m ((c : Thread nD τ).loc main_arg9) : IVec S15360x256 8) (ix2 (colV t n) k) := by
  have e : (win0_9.blk t).view.emb (ix2 n k) = (ix2 (colV t n) k : S15360x256.Idx) := by
    blk_ext [idx t]
  exact (congrArg (V m c main_arg9 : IVec S15360x256 8) e).trans (congrFun (V_main_arg9 m c) _)

theorem ca_blk (c : Dev nD) (t : Fin cfg0.N) (j : Fin 4) (n : Fin 128) : (iblk m c 10 t : FVec Ideal S4x128 .f32) (ix2 j n)
    = (m ((c : Thread nD τ).loc main_arg10) : FVec Ideal S5120x4 .f32) (ix2 (colQ t n) j) := by
  refine Eq.trans ?_ (conv_a m c j (colQ t n))
  have e : (win0_10.blk t).view.emb (ix2 j n) = (ix2 j (colQ t n) : S4x5120.Idx) := by
    blk_ext [idx t]
  exact congrArg (V m c main_v6 : FVec Ideal S4x5120 .f32) e

theorem cb_blk (c : Dev nD) (t : Fin cfg0.N) (j : Fin 4) (n : Fin 128) : (iblk m c 11 t : FVec Ideal S4x128 .f32) (ix2 j n)
    = (m ((c : Thread nD τ).loc main_arg11) : FVec Ideal S5120x4 .f32) (ix2 (colQ t n) j) := by
  refine Eq.trans ?_ (conv_b m c j (colQ t n))
  have e : (win0_11.blk t).view.emb (ix2 j n) = (ix2 j (colQ t n) : S4x5120.Idx) := by
    blk_ext [idx t]
  exact congrArg (V m c main_v7 : FVec Ideal S4x5120 .f32) e

theorem cc_blk (c : Dev nD) (t : Fin cfg0.N) (j : Fin 4) (n : Fin 384) : (iblk m c 12 t : FVec Ideal S4x384 .f32) (ix2 j n)
    = (m ((c : Thread nD τ).loc main_arg12) : FVec Ideal S15360x4 .f32) (ix2 (colV t n) j) := by
  refine Eq.trans ?_ (conv_c m c j (colV t n))
  have e : (win0_12.blk t).view.emb (ix2 j n) = (ix2 j (colV t n) : S4x15360.Idx) := by
    blk_ext [idx t]
  exact congrArg (V m c main_v8 : FVec Ideal S4x15360 .f32) e

/-! ## The result arrays -/

/-- The projection of row `r` onto column `o`. -/
abbrev linF {N : Nat} (x : FVec Ideal S2x768x8192 .bf16) (w : FVec Ideal ⟨2, ![N, 8192]⟩ .fp8e4m3) (s : IVec ⟨2, ![N, 256]⟩ 8)
    (o : Fin N) (r : Fin 1536) : EReal :=
  ProjMath.dot Factor.bits (fun k => x (ix3 (bat r) (tim r) k)) (fun k => w (ix2 o k)) (fun g => s (ix2 o g))

/-- The projections of all rows. -/
def linArr {N : Nat} (x : FVec Ideal S2x768x8192 .bf16) (w : FVec Ideal ⟨2, ![N, 8192]⟩ .fp8e4m3) (s : IVec ⟨2, ![N, 256]⟩ 8) :
    FVec Ideal ⟨2, ![1536, N]⟩ .bf16 := fun y => linF x w s (y 1) (y 0)

/-- The projections of the last eight rows of each batch. -/
def tailArr {N : Nat} (x : FVec Ideal S2x768x8192 .bf16) (w : FVec Ideal ⟨2, ![N, 8192]⟩ .fp8e4m3) (s : IVec ⟨2, ![N, 256]⟩ 8) :
    FVec Ideal ⟨2, ![16, N]⟩ .bf16 := fun y => linF x w s (y 1) (tailRow (y 0))

/-- The masked convolutions of the projections, activated. -/
def actArr {N : Nat} (x : FVec Ideal S2x768x8192 .bf16) (ds : IVec S2x768 32) (w : FVec Ideal ⟨2, ![N, 8192]⟩ .fp8e4m3)
    (s : IVec ⟨2, ![N, 256]⟩ 8) (cv : FVec Ideal ⟨2, ![N, 4]⟩ .f32) : FVec Ideal ⟨2, ![1536, N]⟩ .bf16 := fun y =>
  actAt (fun r => linF x w s (y 1) r) (BitVec.ofNat 32 (tim (y 0)).val - ds (ix2 (bat (y 0)) (tim (y 0)))) (fun j => cv (ix2 (y 1) j)) (y 0)

theorem lin_blk_q (c : Dev nD) (t : Fin cfg0.N) (n : Fin 128) (r : Fin 1536) :
    linB (iblk m c 0 t : FVec Ideal S1536x8192 .bf16) (iblk m c 2 t : FVec Ideal S128x8192 .fp8e4m3) (iblk m c 6 t : IVec S128x256 8) n r
      = linF (N := 5120) (m ((c : Thread nD τ).loc main_arg0)) (m ((c : Thread nD τ).loc main_arg2)) (m ((c : Thread nD τ).loc main_arg4)) (colQ t n) r := by
  unfold linB linF
  simp only [x_blk, wq_blk, sq_blk]

theorem lin_blk_k (c : Dev nD) (t : Fin cfg0.N) (n : Fin 128) (r : Fin 1536) :
    linB (iblk m c 0 t : FVec Ideal S1536x8192 .bf16) (iblk m c 3 t : FVec Ideal S128x8192 .fp8e4m3) (iblk m c 7 t : IVec S128x256 8) n r
      = linF (N := 5120) (m ((c : Thread nD τ).loc main_arg0)) (m ((c : Thread nD τ).loc main_arg3)) (m ((c : Thread nD τ).loc main_arg5)) (colQ t n) r := by
  unfold linB linF
  simp only [x_blk, wk_blk, sk_blk]

theorem lin_blk_v (c : Dev nD) (t : Fin cfg0.N) (n : Fin 384) (r : Fin 1536) :
    linB (iblk m c 0 t : FVec Ideal S1536x8192 .bf16) (iblk m c 4 t : FVec Ideal S384x8192 .fp8e4m3) (iblk m c 8 t : IVec S384x256 8) n r
      = linF (N := 15360) (m ((c : Thread nD τ).loc main_arg0)) (m ((c : Thread nD τ).loc main_arg6)) (m ((c : Thread nD τ).loc main_arg8)) (colV t n) r := by
  unfold linB linF
  simp only [x_blk, wv_blk, sv_blk]

theorem lin_blk_g (c : Dev nD) (t : Fin cfg0.N) (n : Fin 384) (r : Fin 1536) :
    linB (iblk m c 0 t : FVec Ideal S1536x8192 .bf16) (iblk m c 5 t : FVec Ideal S384x8192 .fp8e4m3) (iblk m c 9 t : IVec S384x256 8) n r
      = linF (N := 15360) (m ((c : Thread nD τ).loc main_arg0)) (m ((c : Thread nD τ).loc main_arg7)) (m ((c : Thread nD τ).loc main_arg9)) (colV t n) r := by
  unfold linB linF
  simp only [x_blk, wg_blk, sg_blk]

end Cert.ProjIdeal.Value
-- ==== Proof.ProjReference.lean ====
module

public import proofs.«01_k».proof.Proof.Gen.ProjReferenceIdeal.Value
public import proofs.«01_k».proof.Proof.ProjMath

@[expose] public section

set_option maxRecDepth 16384

noncomputable section

open Idealize.ShloMosaic Idealize.ShloMosaic.TcCoe Idealize.SL.Sem

/-!
# What the reference of the projections computes

Each of its seven results at an index, in the terms of `Cert.ProjMath`.
-/

namespace Cert.ProjReferenceIdeal.Value
open Cert.ProjReferenceIdeal Cert.ProjReferenceIdeal.Gen

/-- The projection onto 5120 columns at batch `b`, time `t`, column `o`. -/
abbrev lin (x : FVec Ideal S2x768x8192 .bf16) (w : FVec Ideal S5120x8192 .fp8e4m3) (s : IVec S5120x256 8)
    (b : Fin 2) (t : Fin 768) (o : Fin 5120) : EReal :=
  ProjMath.dot Factor.power (fun k => x (ix3 b t k)) (fun k => w (ix2 o k)) (fun g => s (ix2 o g))

/-- The projection onto 15360 columns. -/
abbrev linV (x : FVec Ideal S2x768x8192 .bf16) (w : FVec Ideal S15360x8192 .fp8e4m3) (s : IVec S15360x256 8)
    (b : Fin 2) (t : Fin 768) (o : Fin 15360) : EReal :=
  ProjMath.dot Factor.power (fun k => x (ix3 b t k)) (fun k => w (ix2 o k)) (fun g => s (ix2 o g))

theorem lin_q (x : FVec Ideal S2x768x8192 .bf16) (w : FVec Ideal S5120x8192 .fp8e4m3) (s : IVec S5120x256 8)
    (b : Fin 2) (t : Fin 768) (o : Fin 5120) : (k0_pay5 x w s : FVec Ideal S2x768x5120 .bf16) (ix3 b t o) = lin x w s b t o := by
  pointwise [k0_pay5, lin, ProjMath.dot, Factor.power]
  rfl

theorem lin_k (x : FVec Ideal S2x768x8192 .bf16) (w : FVec Ideal S5120x8192 .fp8e4m3) (s : IVec S5120x256 8)
    (b : Fin 2) (t : Fin 768) (o : Fin 5120) : (k0_pay6 x w s : FVec Ideal S2x768x5120 .bf16) (ix3 b t o) = lin x w s b t o := by
  pointwise [k0_pay6, lin, ProjMath.dot, Factor.power]
  rfl

theorem lin_v (x : FVec Ideal S2x768x8192 .bf16) (w : FVec Ideal S15360x8192 .fp8e4m3) (s : IVec S15360x256 8)
    (b : Fin 2) (t : Fin 768) (o : Fin 15360) :
    (k0_pay8 x w (k0_pay7 s) : FVec Ideal S2x768x15360 .bf16) (ix3 b t o) = linV x w s b t o := by
  pointwise [k0_pay8, k0_pay7, linV, ProjMath.dot, Factor.power]
  rfl

theorem lin_g (x : FVec Ideal S2x768x8192 .bf16) (w : FVec Ideal S15360x8192 .fp8e4m3) (s : IVec S15360x256 8)
    (b : Fin 2) (t : Fin 768) (o : Fin 15360) : (k0_pay9 x w s : FVec Ideal S2x768x15360 .bf16) (ix3 b t o) = linV x w s b t o := by
  pointwise [k0_pay9, linV, ProjMath.dot, Factor.power]
  rfl

/-- One masked tap of the reference. -/
theorem tap_back (L : Fin 768 → EReal) (d : BitVec 32) (t : Fin 768) (hd : d.toNat ≤ t.val) (j : Nat) (hj : j < 4) (c v : EReal)
    (h : d.toNat + j ≤ t.val → v = c * L ⟨t.val - j, by omega⟩) :
    Scalar.select (IntOp.cmpi .sge (IntOp.subi (BitVec.ofNat 32 t.val) (BitVec.ofNat 32 j)) d) v 0
      = ProjMath.tap L d.toNat t j c := by
  rw [show IntOp.cmpi .sge (IntOp.subi (BitVec.ofNat 32 t.val) (BitVec.ofNat 32 j)) d = _ from
    ProjMath.mask_back d t.val j t.isLt hd hj]
  exact ProjMath.select_tap L d.toNat t j c v h

/-- The tap at the time itself is never masked. -/
theorem tap_zero (L : Fin 768 → EReal) (d : Nat) (t : Fin 768) (hd : d ≤ t.val) (c : EReal) :
    ProjMath.tap L d t 0 c = c * L t := by
  unfold ProjMath.tap
  rw [if_pos (by omega)]
  rfl

/-- The first convolution. -/
theorem conv_q (L : FVec Ideal S2x768x5120 .bf16) (ds : IVec S2x768 32) (cv : FVec Ideal S5120x4 .f32)
    (b : Fin 2) (t : Fin 768) (o : Fin 5120) (hd : (ds (ix2 b t)).toNat ≤ t.val) :
    (k0_pay19 (k0_pay15 k0_pay10 ds cv (k0_pay11 L) (k0_pay12 (F := Ideal)) (k0_pay13 (F := Ideal) ds) (k0_pay14 cv)) (k0_pay16 (F := Ideal) k0_pay10 ds) (k0_pay17 cv) (k0_pay18 (k0_pay11 L)) (Scalar.ofBits .f32 0x00000000#32) : FVec Ideal S2x768x5120 .bf16) (ix3 b t o)
      = ProjMath.silu (ProjMath.conv (fun t' => L (ix3 b t' o)) (ds (ix2 b t)).toNat (fun j => cv (ix2 o j)) t) := by
  pointwise [k0_pay19, k0_pay15, k0_pay10, k0_pay11, k0_pay12, k0_pay13, k0_pay14, k0_pay16, k0_pay17, k0_pay18]
  show ProjMath.silu _ = _
  refine congrArg ProjMath.silu ?_
  unfold ProjMath.conv
  refine congrArg₂ (· + ·) (congrArg₂ (· + ·) (congrArg₂ (· + ·)
    (tap_back _ _ t hd 3 (by decide) _ _ fun h => ?_) (tap_back _ _ t hd 2 (by decide) _ _ fun h => ?_))
    (tap_back _ _ t hd 1 (by decide) _ _ fun h => ?_))
    ((tap_back (fun t' => L (ix3 b t' o)) (ds (ix2 b t)) t hd 0 (by decide) (cv (ix2 o 3)) (cv (ix2 o 3) * L (ix3 b t o)) fun h => rfl).trans
      (tap_zero _ _ t hd _))
  · rw [dif_neg (by omega)]
  · rw [dif_neg (by omega)]
    exact congrArg (fun t' => cv (ix2 o 1) * L (ix3 b t' o)) (Fin.ext (by simp only; omega))
  · rw [dif_neg (by omega)]
    exact congrArg (fun t' => cv (ix2 o 2) * L (ix3 b t' o)) (Fin.ext (by simp only; omega))

/-- The second convolution. -/
theorem conv_k (L : FVec Ideal S2x768x5120 .bf16) (ds : IVec S2x768 32) (cv : FVec Ideal S5120x4 .f32)
    (b : Fin 2) (t : Fin 768) (o : Fin 5120) (hd : (ds (ix2 b t)).toNat ≤ t.val) :
    (k0_pay24 k0_pay10 ds cv (k0_pay20 L) (k0_pay21 L k0_pay10 ds cv) (k0_pay22 cv) (k0_pay23 L k0_pay10 ds) : FVec Ideal S2x768x5120 .bf16) (ix3 b t o)
      = ProjMath.silu (ProjMath.conv (fun t' => L (ix3 b t' o)) (ds (ix2 b t)).toNat (fun j => cv (ix2 o j)) t) := by
  pointwise [k0_pay24, k0_pay10, k0_pay20, k0_pay21, k0_pay22, k0_pay23]
  show ProjMath.silu _ = _
  refine congrArg ProjMath.silu ?_
  unfold ProjMath.conv
  refine congrArg₂ (· + ·) (congrArg₂ (· + ·) (congrArg₂ (· + ·)
    (tap_back _ _ t hd 3 (by decide) _ _ fun h => ?_) (tap_back _ _ t hd 2 (by decide) _ _ fun h => ?_))
    (tap_back _ _ t hd 1 (by decide) _ _ fun h => ?_))
    ((tap_back (fun t' => L (ix3 b t' o)) (ds (ix2 b t)) t hd 0 (by decide) (cv (ix2 o 3)) (cv (ix2 o 3) * L (ix3 b t o)) fun h => rfl).trans
      (tap_zero _ _ t hd _))
  · rw [dif_neg (by omega)]
  · rw [dif_neg (by omega)]
    exact congrArg (fun t' => cv (ix2 o 1) * L (ix3 b t' o)) (Fin.ext (by simp only; omega))
  · rw [dif_neg (by omega)]
    exact congrArg (fun t' => cv (ix2 o 2) * L (ix3 b t' o)) (Fin.ext (by simp only; omega))

/-- The third convolution. -/
theorem conv_v (L : FVec Ideal S2x768x15360 .bf16) (ds : IVec S2x768 32) (cv : FVec Ideal S15360x4 .f32)
    (b : Fin 2) (t : Fin 768) (o : Fin 15360) (hd : (ds (ix2 b t)).toNat ≤ t.val) :
    (k0_pay1 ds cv (k0_pay25 L) (k0_pay27 k0_pay10 ds cv (k0_pay25 L) (k0_pay26 (F := Ideal))) (k0_pay28 k0_pay10) k0_pay29 : FVec Ideal S2x768x15360 .bf16) (ix3 b t o)
      = ProjMath.silu (ProjMath.conv (fun t' => L (ix3 b t' o)) (ds (ix2 b t)).toNat (fun j => cv (ix2 o j)) t) := by
  pointwise [k0_pay1, k0_pay10, k0_pay25, k0_pay26, k0_pay27, k0_pay28, k0_pay29]
  show ProjMath.silu _ = _
  refine congrArg ProjMath.silu ?_
  unfold ProjMath.conv
  refine congrArg₂ (· + ·) (congrArg₂ (· + ·) (congrArg₂ (· + ·)
    (tap_back _ _ t hd 3 (by decide) _ _ fun h => ?_) (tap_back _ _ t hd 2 (by decide) _ _ fun h => ?_))
    (tap_back _ _ t hd 1 (by decide) _ _ fun h => ?_))
    ((tap_back (fun t' => L (ix3 b t' o)) (ds (ix2 b t)) t hd 0 (by decide) (cv (ix2 o 3)) (cv (ix2 o 3) * L (ix3 b t o)) fun h => rfl).trans
      (tap_zero _ _ t hd _))
  · rw [dif_neg (by omega)]
  · rw [dif_neg (by omega)]
    exact congrArg (fun t' => cv (ix2 o 1) * L (ix3 b t' o)) (Fin.ext (by simp only; omega))
  · rw [dif_neg (by omega)]
    exact congrArg (fun t' => cv (ix2 o 2) * L (ix3 b t' o)) (Fin.ext (by simp only; omega))

/-! The last three times of each batch. -/

theorem tail_q (L : FVec Ideal S2x768x5120 .bf16) (b : Fin 2) (j : Fin 3) (o : Fin 5120) :
    (k0_pay2 L : FVec Ideal S2x3x5120 .bf16) (ix3 b j o) = L (ix3 b ⟨765 + j.val, by omega⟩ o) := by
  pointwise [k0_pay2]

theorem tail_k (L : FVec Ideal S2x768x5120 .bf16) (b : Fin 2) (j : Fin 3) (o : Fin 5120) :
    (k0_pay3 L : FVec Ideal S2x3x5120 .bf16) (ix3 b j o) = L (ix3 b ⟨765 + j.val, by omega⟩ o) := by
  pointwise [k0_pay3]

theorem tail_v (L : FVec Ideal S2x768x15360 .bf16) (b : Fin 2) (j : Fin 3) (o : Fin 15360) :
    (k0_pay4 L : FVec Ideal S2x3x15360 .bf16) (ix3 b j o) = L (ix3 b ⟨765 + j.val, by omega⟩ o) := by
  pointwise [k0_pay4]

end Cert.ProjReferenceIdeal.Value
-- ==== Proof.ProjEquation.lean ====
module

public import proofs.«01_k».proof.Proof.ProjArray
public import proofs.«01_k».proof.Proof.ProjReference
public import proofs.«01_k».proof.Pre_project_ok
public import Idealize.ShloMosaic.Lib.ReduceAll
public import Idealize.ShloMosaic.Lib.StableHlo.Predicate

@[expose] public section

set_option maxRecDepth 16384

noncomputable section

open Idealize.ShloMosaic Idealize.ShloMosaic.TcCoe Idealize.SL.Sem

/-!
# The equation between the projections and their reference

The kernel makes each scale factor from the byte's bits, and decides a tap by the distance of the row to its document's
start; the reference takes the power of two and compares times. They are equal when every scale byte is from 1 to 254
and every document starts at or before the time.
-/

namespace Cert.ProjEquation
open Cert.ProjIdeal.Value

/-- The side conditions of the precondition's operations. -/
instance preFacts : Cert.Pre_project_ok.Facts where
  bcast_S_S2x768 := by decide
  bcast_S768_S1x768_1 := by decide
  bcast_S1x768_S2x768_0_1 := by decide
  reducesTo_S2x768_S_d0_1 := by decide
  h_S_ := by decide
  bcast_S_S5120x256 := by decide
  reducesTo_S5120x256_S_d0_1 := by decide
  bcast_S_S15360x256 := by decide
  reducesTo_S15360x256_S_d0_1 := by decide

/-- A scale byte the claim speaks of. -/
abbrev InRange (b : BitVec 8) : Prop := 1 ≤ b.toNat ∧ b.toNat ≤ 254

/-- A word between zero and a time, compared signed, is at most that time. -/
theorem start_le (d : BitVec 32) (t : Fin 768) (h0 : IntOp.cmpi .sge d 0#32 = 1#1)
    (h1 : IntOp.cmpi .sle d (BitVec.ofNat 32 t.val) = 1#1) : d.toNat ≤ t.val := by
  rw [WordCmp.cmpi_sge_zero] at h0
  have hd : d.toNat < 2 ^ 31 := by
    by_contra hn
    rw [decide_eq_false hn] at h0
    exact absurd h0 (by decide)
  have ht : (BitVec.ofNat 32 t.val).toNat = t.val := by
    rw [BitVec.toNat_ofNat]; omega
  have := (StableHlo.Predicate.sle_iff_toNat hd (by rw [ht]; omega)).mp h1
  rwa [ht] at this

/-- What the precondition says. -/
theorem decode (a0 : FVec Ideal Cert.Pre_project_ok.S2x768x8192 .bf16) (a1 : IVec Cert.Pre_project_ok.S2x768 32) (a2 : FVec Ideal Cert.Pre_project_ok.S5120x8192 .fp8e4m3) (a3 : FVec Ideal Cert.Pre_project_ok.S5120x8192 .fp8e4m3) (a4 : IVec Cert.Pre_project_ok.S5120x256 8) (a5 : IVec Cert.Pre_project_ok.S5120x256 8) (a6 : FVec Ideal Cert.Pre_project_ok.S15360x8192 .fp8e4m3) (a7 : FVec Ideal Cert.Pre_project_ok.S15360x8192 .fp8e4m3) (a8 : IVec Cert.Pre_project_ok.S15360x256 8) (a9 : IVec Cert.Pre_project_ok.S15360x256 8) (a10 : FVec Ideal Cert.Pre_project_ok.S5120x4 .f32) (a11 : FVec Ideal Cert.Pre_project_ok.S5120x4 .f32) (a12 : FVec Ideal Cert.Pre_project_ok.S15360x4 .f32)
    (h : Cert.Pre_project_ok.fn (F := Ideal) a0 a1 a2 a3 a4 a5 a6 a7 a8 a9 a10 a11 a12 = fun _ => 1#1) :
    (∀ i, InRange (a4 i)) ∧ (∀ i, InRange (a5 i)) ∧ (∀ i, InRange (a8 i)) ∧ (∀ i, InRange (a9 i))
      ∧ ∀ (b : Fin 2) (t : Fin 768), (a1 (ix2 b t)).toNat ≤ t.val := by
  have e := congrFun h (fun a => a.elim0)
  dsimp only [Cert.Pre_project_ok.fn, Cert.Pre_project_ok.fn_part1, Cert.Pre_project_ok.fn_part2] at e
  obtain ⟨e, ed⟩ := IntOp.andi_eq_one.mp e
  obtain ⟨e, e9⟩ := IntOp.andi_eq_one.mp e
  obtain ⟨e, e8⟩ := IntOp.andi_eq_one.mp e
  obtain ⟨e4, e5⟩ := IntOp.andi_eq_one.mp e
  refine ⟨fun i => ?_, fun i => ?_, fun i => ?_, fun i => ?_, fun b t => ?_⟩
  · obtain ⟨l, u⟩ := IntOp.andi_eq_one.mp (Host.reduce_andi_all _ _ _ _ _ e4 i)
    exact ⟨IntOp.cmpi_uge.mp l, IntOp.cmpi_ule.mp u⟩
  · obtain ⟨l, u⟩ := IntOp.andi_eq_one.mp (Host.reduce_andi_all _ _ _ _ _ e5 i)
    exact ⟨IntOp.cmpi_uge.mp l, IntOp.cmpi_ule.mp u⟩
  · obtain ⟨l, u⟩ := IntOp.andi_eq_one.mp (Host.reduce_andi_all _ _ _ _ _ e8 i)
    exact ⟨IntOp.cmpi_uge.mp l, IntOp.cmpi_ule.mp u⟩
  · obtain ⟨l, u⟩ := IntOp.andi_eq_one.mp (Host.reduce_andi_all _ _ _ _ _ e9 i)
    exact ⟨IntOp.cmpi_uge.mp l, IntOp.cmpi_ule.mp u⟩
  · obtain ⟨l, u⟩ := IntOp.andi_eq_one.mp (Host.reduce_andi_all _ _ _ _ _ ed (ix2 b t))
    exact start_le _ t l u

/-! ## The kernel's arrays at batch `b`, time `t` -/

/-- The row of time `t` of batch `b`. -/
abbrev row (b : Fin 2) (t : Fin 768) : Fin 1536 := ⟨768 * b.val + t.val, by omega⟩

theorem bat_row (b : Fin 2) (t : Fin 768) : bat (row b t) = b := Fin.ext (by show (768 * b.val + t.val) / 768 = b.val; omega)
theorem tim_row (b : Fin 2) (t : Fin 768) : tim (row b t) = t := Fin.ext (by show (768 * b.val + t.val) % 768 = t.val; omega)

variable {N : Nat} (x : FVec Ideal Cert.ProjIdeal.S2x768x8192 .bf16) (ds : IVec Cert.ProjIdeal.S2x768 32)
  (w : FVec Ideal ⟨2, ![N, 8192]⟩ .fp8e4m3) (s : IVec ⟨2, ![N, 256]⟩ 8) (cv : FVec Ideal ⟨2, ![N, 4]⟩ .f32)

/-- A cut along the middle axis, at an index. -/
theorem slice_row {α : Type} {p a b q : Nat} (off : Nat) (X : (⟨3, ![p, a, b]⟩ : Shape).Idx → α)
    (h : (⟨3, ![p, a, b]⟩ : Shape).Slices ![0, off, 0] ⟨3, ![p, q, b]⟩) (i : Fin p) (j : Fin q) (k : Fin b) (r : Fin a)
    (hr : r.val = off + j.val) : extractStridedSlice ⟨3, ![p, q, b]⟩ ![0, off, 0] X h (ix3 i j k) = X (ix3 i r k) :=
  extractStridedSlice_apply _ _ _ _ _ (fun ax => by
    match ax with
    | ⟨0, _⟩ => exact (Nat.zero_add _).symm
    | ⟨1, _⟩ => exact hr
    | ⟨2, _⟩ => exact (Nat.zero_add _).symm)

/-- The projection as the reference makes it. -/
abbrev refLin (b : Fin 2) (t : Fin 768) (o : Fin N) : EReal :=
  ProjMath.dot Factor.power (fun k => x (ix3 b t k)) (fun k => w (ix2 o k)) (fun g => s (ix2 o g))

theorem lin_row (b : Fin 2) (t : Fin 768) (o : Fin N) (hs : ∀ i, InRange (s i)) :
    linF x w s o (row b t) = refLin x w s b t o := by
  unfold linF
  rw [bat_row, tim_row]
  exact ProjMath.dot_eq _ _ _ fun g => hs _

theorem linArr_row (b : Fin 2) (t : Fin 768) (o : Fin N) (hs : ∀ i, InRange (s i)) :
    linArr x w s (ix2 (row b t) o) = refLin x w s b t o :=
  lin_row x w s b t o hs

theorem tailArr_row (b : Fin 2) (j : Fin 3) (o : Fin N) (hs : ∀ i, InRange (s i)) :
    tailArr x w s (ix2 ⟨b.val * 8 + (5 + j.val), by omega⟩ o) = refLin x w s b ⟨765 + j.val, by omega⟩ o := by
  refine Eq.trans ?_ (lin_row x w s b ⟨765 + j.val, by omega⟩ o hs)
  exact congrArg (linF x w s o) (Fin.ext (by
    show 768 * ((b.val * 8 + (5 + j.val)) / 8) + 760 + (b.val * 8 + (5 + j.val)) % 8 = 768 * b.val + (765 + j.val)
    omega))

theorem actArr_row (b : Fin 2) (t : Fin 768) (o : Fin N) (hs : ∀ i, InRange (s i)) (hd : (ds (ix2 b t)).toNat ≤ t.val) :
    actArr x ds w s cv (ix2 (row b t) o)
      = ProjMath.silu (ProjMath.conv (fun t' => refLin x w s b t' o) (ds (ix2 b t)).toNat (fun j => cv (ix2 o j)) t) := by
  unfold actArr
  show actAt (fun r => linF x w s o r) (BitVec.ofNat 32 (tim (row b t)).val - ds (ix2 (bat (row b t)) (tim (row b t))))
    (fun j => cv (ix2 o j)) (row b t) = _
  rw [bat_row, tim_row, actAt_eq _ _ _ b t hd]
  exact congrArg (fun L => ProjMath.silu (ProjMath.conv L _ _ t)) (funext fun t' => lin_row x w s b t' o hs)

/-! ## The seven results -/

section
open Cert.ProjReferenceIdeal Cert.ProjReferenceIdeal.Gen

variable (a0 : FVec Ideal Cert.ProjReferenceIdeal.S2x768x8192 .bf16) (a1 : IVec Cert.ProjReferenceIdeal.S2x768 32) (a2 : FVec Ideal Cert.ProjReferenceIdeal.S5120x8192 .fp8e4m3) (a3 : FVec Ideal Cert.ProjReferenceIdeal.S5120x8192 .fp8e4m3) (a4 : IVec Cert.ProjReferenceIdeal.S5120x256 8) (a5 : IVec Cert.ProjReferenceIdeal.S5120x256 8) (a6 : FVec Ideal Cert.ProjReferenceIdeal.S15360x8192 .fp8e4m3) (a7 : FVec Ideal Cert.ProjReferenceIdeal.S15360x8192 .fp8e4m3) (a8 : IVec Cert.ProjReferenceIdeal.S15360x256 8) (a9 : IVec Cert.ProjReferenceIdeal.S15360x256 8) (a10 : FVec Ideal Cert.ProjReferenceIdeal.S5120x4 .f32) (a11 : FVec Ideal Cert.ProjReferenceIdeal.S5120x4 .f32) (a12 : FVec Ideal Cert.ProjReferenceIdeal.S15360x4 .f32)

theorem pay_q : (k0_pay30 (F := Ideal) a0 a1 a2 a3 a4 a5 a6 a7 a8 a9 a10 a11 a12 : FVec Ideal S2x768x5120 .bf16) = k0_pay5 (F := Ideal) a0 a2 a4 := by
  unfold k0_pay30
  rw [View.ld_unit_zero (by decide), View.ld_unit_zero (by decide), View.ld_unit_zero (by decide)]

theorem pay_k : (k0_pay31 (F := Ideal) a0 a1 a2 a3 a4 a5 a6 a7 a8 a9 a10 a11 a12 : FVec Ideal S2x768x5120 .bf16) = k0_pay6 (F := Ideal) a0 a3 a5 := by
  unfold k0_pay31
  rw [View.ld_unit_zero (by decide), View.ld_unit_zero (by decide), View.ld_unit_zero (by decide)]

theorem pay_v : (k0_pay32 (F := Ideal) a0 a1 a2 a3 a4 a5 a6 a7 a8 a9 a10 a11 a12 : FVec Ideal S2x768x15360 .bf16) = k0_pay8 (F := Ideal) a0 a6 (k0_pay7 (F := Ideal) a8) := by
  unfold k0_pay32
  rw [View.ld_unit_zero (by decide), View.ld_unit_zero (by decide), View.ld_unit_zero (by decide)]

theorem q_eq (hs : ∀ i, InRange (a4 i)) (hd : ∀ (b : Fin 2) (t : Fin 768), (a1 (ix2 b t)).toNat ≤ t.val)
    (hc : (⟨2, ![1536, 5120]⟩ : Shape).ShapeCasts ⟨3, ![2, 768, 5120]⟩) :
    shapeCast ⟨3, ![2, 768, 5120]⟩ (actArr (N := 5120) a0 a1 a2 a4 a10) hc = Value.G13 (F := Ideal) a0 a1 a2 a3 a4 a5 a6 a7 a8 a9 a10 a11 a12 := by
  funext i
  obtain ⟨b, t, o, rfl⟩ : ∃ (b : Fin 2) (t : Fin 768) (o : Fin 5120), i = ix3 b t o := ⟨i 0, i 1, i 2, eq_ix3 i⟩
  rw [split_apply _ hc b t o (row b t) (by show 768 * b.val + t.val = b.val * 768 + t.val; omega), actArr_row _ _ _ _ _ _ _ _ hs (hd b t)]
  refine Eq.trans ?_ (Value.conv_q (k0_pay30 (F := Ideal) a0 a1 a2 a3 a4 a5 a6 a7 a8 a9 a10 a11 a12) a1 a10 b t o (hd b t)).symm
  refine congrArg (fun L => ProjMath.silu (ProjMath.conv L _ _ t)) (funext fun t' => ?_)
  rw [pay_q]
  exact (Value.lin_q a0 a2 a4 b t' o).symm

theorem k_eq (hs : ∀ i, InRange (a5 i)) (hd : ∀ (b : Fin 2) (t : Fin 768), (a1 (ix2 b t)).toNat ≤ t.val)
    (hc : (⟨2, ![1536, 5120]⟩ : Shape).ShapeCasts ⟨3, ![2, 768, 5120]⟩) :
    shapeCast ⟨3, ![2, 768, 5120]⟩ (actArr (N := 5120) a0 a1 a3 a5 a11) hc = Value.G14 (F := Ideal) a0 a1 a2 a3 a4 a5 a6 a7 a8 a9 a10 a11 a12 := by
  funext i
  obtain ⟨b, t, o, rfl⟩ : ∃ (b : Fin 2) (t : Fin 768) (o : Fin 5120), i = ix3 b t o := ⟨i 0, i 1, i 2, eq_ix3 i⟩
  rw [split_apply _ hc b t o (row b t) (by show 768 * b.val + t.val = b.val * 768 + t.val; omega), actArr_row _ _ _ _ _ _ _ _ hs (hd b t)]
  refine Eq.trans ?_ (Value.conv_k (k0_pay31 (F := Ideal) a0 a1 a2 a3 a4 a5 a6 a7 a8 a9 a10 a11 a12) a1 a11 b t o (hd b t)).symm
  refine congrArg (fun L => ProjMath.silu (ProjMath.conv L _ _ t)) (funext fun t' => ?_)
  rw [pay_k]
  exact (Value.lin_k a0 a3 a5 b t' o).symm

theorem v_eq (hs : ∀ i, InRange (a8 i)) (hd : ∀ (b : Fin 2) (t : Fin 768), (a1 (ix2 b t)).toNat ≤ t.val)
    (hc : (⟨2, ![1536, 15360]⟩ : Shape).ShapeCasts ⟨3, ![2, 768, 15360]⟩) :
    shapeCast ⟨3, ![2, 768, 15360]⟩ (actArr (N := 15360) a0 a1 a6 a8 a12) hc = Value.G15 (F := Ideal) a0 a1 a2 a3 a4 a5 a6 a7 a8 a9 a10 a11 a12 := by
  funext i
  obtain ⟨b, t, o, rfl⟩ : ∃ (b : Fin 2) (t : Fin 768) (o : Fin 15360), i = ix3 b t o := ⟨i 0, i 1, i 2, eq_ix3 i⟩
  rw [split_apply _ hc b t o (row b t) (by show 768 * b.val + t.val = b.val * 768 + t.val; omega), actArr_row _ _ _ _ _ _ _ _ hs (hd b t)]
  refine Eq.trans ?_ (Value.conv_v (k0_pay32 (F := Ideal) a0 a1 a2 a3 a4 a5 a6 a7 a8 a9 a10 a11 a12) a1 a12 b t o (hd b t)).symm
  refine congrArg (fun L => ProjMath.silu (ProjMath.conv L _ _ t)) (funext fun t' => ?_)
  rw [pay_v]
  exact (Value.lin_v a0 a6 a8 b t' o).symm

theorem g_eq (hs : ∀ i, InRange (a9 i)) (hc : (⟨2, ![1536, 15360]⟩ : Shape).ShapeCasts ⟨3, ![2, 768, 15360]⟩) :
    shapeCast ⟨3, ![2, 768, 15360]⟩ (linArr (N := 15360) a0 a7 a9) hc = Value.G16 (F := Ideal) a0 a1 a2 a3 a4 a5 a6 a7 a8 a9 a10 a11 a12 := by
  funext i
  obtain ⟨b, t, o, rfl⟩ : ∃ (b : Fin 2) (t : Fin 768) (o : Fin 15360), i = ix3 b t o := ⟨i 0, i 1, i 2, eq_ix3 i⟩
  rw [split_apply _ hc b t o (row b t) (by show 768 * b.val + t.val = b.val * 768 + t.val; omega), linArr_row _ _ _ _ _ _ hs]
  exact (Value.lin_g a0 a7 a9 b t o).symm

theorem q_tail_eq (hs : ∀ i, InRange (a4 i)) (hc : (⟨2, ![16, 5120]⟩ : Shape).ShapeCasts ⟨3, ![2, 8, 5120]⟩)
    (hl : (⟨3, ![2, 8, 5120]⟩ : Shape).Slices ![0, 5, 0] ⟨3, ![2, 3, 5120]⟩) :
    extractStridedSlice ⟨3, ![2, 3, 5120]⟩ ![0, 5, 0] (shapeCast ⟨3, ![2, 8, 5120]⟩ (tailArr (N := 5120) a0 a2 a4) hc) hl
      = Value.G17 (F := Ideal) a0 a1 a2 a3 a4 a5 a6 a7 a8 a9 a10 a11 a12 := by
  funext i
  obtain ⟨b, j, o, rfl⟩ : ∃ (b : Fin 2) (j : Fin 3) (o : Fin 5120), i = ix3 b j o := ⟨i 0, i 1, i 2, eq_ix3 i⟩
  rw [slice_row 5 _ hl b j o ⟨5 + j.val, by omega⟩ rfl, split_apply _ hc b _ o ⟨b.val * 8 + (5 + j.val), by omega⟩ rfl, tailArr_row _ _ _ _ _ _ hs]
  refine Eq.trans ?_ (Value.tail_q (k0_pay30 (F := Ideal) a0 a1 a2 a3 a4 a5 a6 a7 a8 a9 a10 a11 a12) b j o).symm
  rw [pay_q]
  exact (Value.lin_q a0 a2 a4 b _ o).symm

theorem k_tail_eq (hs : ∀ i, InRange (a5 i)) (hc : (⟨2, ![16, 5120]⟩ : Shape).ShapeCasts ⟨3, ![2, 8, 5120]⟩)
    (hl : (⟨3, ![2, 8, 5120]⟩ : Shape).Slices ![0, 5, 0] ⟨3, ![2, 3, 5120]⟩) :
    extractStridedSlice ⟨3, ![2, 3, 5120]⟩ ![0, 5, 0] (shapeCast ⟨3, ![2, 8, 5120]⟩ (tailArr (N := 5120) a0 a3 a5) hc) hl
      = Value.G18 (F := Ideal) a0 a1 a2 a3 a4 a5 a6 a7 a8 a9 a10 a11 a12 := by
  funext i
  obtain ⟨b, j, o, rfl⟩ : ∃ (b : Fin 2) (j : Fin 3) (o : Fin 5120), i = ix3 b j o := ⟨i 0, i 1, i 2, eq_ix3 i⟩
  rw [slice_row 5 _ hl b j o ⟨5 + j.val, by omega⟩ rfl, split_apply _ hc b _ o ⟨b.val * 8 + (5 + j.val), by omega⟩ rfl, tailArr_row _ _ _ _ _ _ hs]
  refine Eq.trans ?_ (Value.tail_k (k0_pay31 (F := Ideal) a0 a1 a2 a3 a4 a5 a6 a7 a8 a9 a10 a11 a12) b j o).symm
  rw [pay_k]
  exact (Value.lin_k a0 a3 a5 b _ o).symm

theorem v_tail_eq (hs : ∀ i, InRange (a8 i)) (hc : (⟨2, ![16, 15360]⟩ : Shape).ShapeCasts ⟨3, ![2, 8, 15360]⟩)
    (hl : (⟨3, ![2, 8, 15360]⟩ : Shape).Slices ![0, 5, 0] ⟨3, ![2, 3, 15360]⟩) :
    extractStridedSlice ⟨3, ![2, 3, 15360]⟩ ![0, 5, 0] (shapeCast ⟨3, ![2, 8, 15360]⟩ (tailArr (N := 15360) a0 a6 a8) hc) hl
      = Value.G19 (F := Ideal) a0 a1 a2 a3 a4 a5 a6 a7 a8 a9 a10 a11 a12 := by
  funext i
  obtain ⟨b, j, o, rfl⟩ : ∃ (b : Fin 2) (j : Fin 3) (o : Fin 15360), i = ix3 b j o := ⟨i 0, i 1, i 2, eq_ix3 i⟩
  rw [slice_row 5 _ hl b j o ⟨5 + j.val, by omega⟩ rfl, split_apply _ hc b _ o ⟨b.val * 8 + (5 + j.val), by omega⟩ rfl, tailArr_row _ _ _ _ _ _ hs]
  refine Eq.trans ?_ (Value.tail_v (k0_pay32 (F := Ideal) a0 a1 a2 a3 a4 a5 a6 a7 a8 a9 a10 a11 a12) b j o).symm
  rw [pay_v]
  exact (Value.lin_v a0 a6 a8 b _ o).symm

end

end Cert.ProjEquation
-- ==== Proof.ProjBlock.lean ====
module

public import proofs.«01_k».proof.Proof.Gen.ProjIdeal.Frame
public import Idealize.ShloMosaic.Lib.Pipeline.ValueKit
public import proofs.«01_k».proof.Proof.ProjPart

@[expose] public section

set_option maxRecDepth 65536

noncomputable section

open Idealize.ShloMosaic Idealize.ShloMosaic.TcCoe Idealize.SL.Sem
open Idealize.ShloMosaic.Pipeline (Dat)

/-!
# What one head's run computes: queries and keys

At a head the kernel dequantises the head's weight rows into a buffer, multiplies the tokens by them, and puts the products
through the filter of four taps; it also keeps the last rows of the products.
-/

namespace Cert.ProjIdeal.Value
open Cert.ProjIdeal Cert.ProjIdeal.Gen

set_option maxHeartbeats 16000000 in
/-- The head's queries. -/
theorem out_q (c : Dev nD) (i : grid0.Coords) (arg1 : Memref sig .tc .vmem S1536x8192 .bf16) (harg1 : arg1.IsWhole) (arg2 : Memref sig .tc .vmem S1536x1 .i32) (harg2 : arg2.IsWhole) (arg3 : Memref sig .tc .vmem S128x8192 .fp8e4m3) (harg3 : arg3.IsWhole) (arg4 : Memref sig .tc .vmem S128x8192 .fp8e4m3) (harg4 : arg4.IsWhole) (arg5 : Memref sig .tc .vmem S384x8192 .fp8e4m3) (harg5 : arg5.IsWhole) (arg6 : Memref sig .tc .vmem S384x8192 .fp8e4m3) (harg6 : arg6.IsWhole) (arg7 : Memref sig .tc .vmem S128x256 .i8) (harg7 : arg7.IsWhole) (arg8 : Memref sig .tc .vmem S128x256 .i8) (harg8 : arg8.IsWhole) (arg9 : Memref sig .tc .vmem S384x256 .i8) (harg9 : arg9.IsWhole) (arg10 : Memref sig .tc .vmem S384x256 .i8) (harg10 : arg10.IsWhole) (arg11 : Memref sig .tc .vmem S4x128 .f32) (harg11 : arg11.IsWhole) (arg12 : Memref sig .tc .vmem S4x128 .f32) (harg12 : arg12.IsWhole) (arg13 : Memref sig .tc .vmem S4x384 .f32) (harg13 : arg13.IsWhole) (arg14 : Memref sig .tc .vmem S1536x128 .bf16) (harg14 : arg14.IsWhole) (arg15 : Memref sig .tc .vmem S1536x128 .bf16) (harg15 : arg15.IsWhole) (arg16 : Memref sig .tc .vmem S1536x384 .bf16) (harg16 : arg16.IsWhole) (arg17 : Memref sig .tc .vmem S1536x384 .bf16) (harg17 : arg17.IsWhole) (arg18 : Memref sig .tc .vmem S16x128 .bf16) (harg18 : arg18.IsWhole) (arg19 : Memref sig .tc .vmem S16x128 .bf16) (harg19 : arg19.IsWhole) (arg20 : Memref sig .tc .vmem S16x384 .bf16) (harg20 : arg20.IsWhole) (arg21 : Memref sig .tc .vmem S256x8192 .bf16) (harg21 : arg21.IsWhole)
    (x0 : Vec Ideal S1536x8192 .bf16) (x1 : Vec Ideal S1536x1 .i32) (x2 : Vec Ideal S128x8192 .fp8e4m3) (x3 : Vec Ideal S128x8192 .fp8e4m3) (x4 : Vec Ideal S384x8192 .fp8e4m3) (x5 : Vec Ideal S384x8192 .fp8e4m3) (x6 : Vec Ideal S128x256 .i8) (x7 : Vec Ideal S128x256 .i8) (x8 : Vec Ideal S384x256 .i8) (x9 : Vec Ideal S384x256 .i8) (x10 : Vec Ideal S4x128 .f32) (x11 : Vec Ideal S4x128 .f32) (x12 : Vec Ideal S4x384 .f32) (r : Fin 1536) (n : Fin 128) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 (ix2 r n)
      = actAt (fun r' => linB x0 x2 x6 n r') (x1 (ix2 r 0)) (fun j => x10 (ix2 j n)) r := by
  frame_out
  rw [readCov_of _ _ (pair (fun n k => x2 (ix2 n k)) (fun n q => x6 (ix2 n q)) (fun n k => x3 (ix2 n k)) (fun n q => x7 (ix2 n q))) _ ?_]
  · rw [act_q, act_apply, dist_apply]
    simp only [first_apply]
  · intro y
    refine canon_take 128 _ y _ (View.cover_of_tiledL _ ![128, 128] (by sl_kernel_rfl) y) ?_
    iterate 32
      refine step_second _ _ _ _ y x3 0 128 _ rfl (hi_bits _ _ (bits_k x7)) (fun n i k hi => congrArg (fun i => x3 (ix2 i k)) (Fin.ext (by omega))) (by decide) (by decide) rfl rfl rfl rfl ?_
    iterate 32
      refine step_second _ _ _ _ y x3 0 0 _ rfl (lo_bits _ _ (bits_k x7)) (fun n i k hi => congrArg (fun i => x3 (ix2 i k)) (Fin.ext (by omega))) (by decide) (by decide) rfl rfl rfl rfl ?_
    iterate 32
      refine step_first _ _ _ _ y x2 0 128 _ rfl (hi_bits _ _ (bits_q x6)) (fun n i k hi => congrArg (fun i => x2 (ix2 i k)) (Fin.ext (by omega))) (by decide) (by decide) rfl rfl rfl rfl ?_
    iterate 32
      refine step_first _ _ _ _ y x2 0 0 _ rfl (lo_bits _ _ (bits_q x6)) (fun n i k hi => congrArg (fun i => x2 (ix2 i k)) (Fin.ext (by omega))) (by decide) (by decide) rfl rfl rfl rfl ?_
    exact View.allAt_nil _ _

set_option maxHeartbeats 16000000 in
/-- The head's keys. -/
theorem out_k (c : Dev nD) (i : grid0.Coords) (arg1 : Memref sig .tc .vmem S1536x8192 .bf16) (harg1 : arg1.IsWhole) (arg2 : Memref sig .tc .vmem S1536x1 .i32) (harg2 : arg2.IsWhole) (arg3 : Memref sig .tc .vmem S128x8192 .fp8e4m3) (harg3 : arg3.IsWhole) (arg4 : Memref sig .tc .vmem S128x8192 .fp8e4m3) (harg4 : arg4.IsWhole) (arg5 : Memref sig .tc .vmem S384x8192 .fp8e4m3) (harg5 : arg5.IsWhole) (arg6 : Memref sig .tc .vmem S384x8192 .fp8e4m3) (harg6 : arg6.IsWhole) (arg7 : Memref sig .tc .vmem S128x256 .i8) (harg7 : arg7.IsWhole) (arg8 : Memref sig .tc .vmem S128x256 .i8) (harg8 : arg8.IsWhole) (arg9 : Memref sig .tc .vmem S384x256 .i8) (harg9 : arg9.IsWhole) (arg10 : Memref sig .tc .vmem S384x256 .i8) (harg10 : arg10.IsWhole) (arg11 : Memref sig .tc .vmem S4x128 .f32) (harg11 : arg11.IsWhole) (arg12 : Memref sig .tc .vmem S4x128 .f32) (harg12 : arg12.IsWhole) (arg13 : Memref sig .tc .vmem S4x384 .f32) (harg13 : arg13.IsWhole) (arg14 : Memref sig .tc .vmem S1536x128 .bf16) (harg14 : arg14.IsWhole) (arg15 : Memref sig .tc .vmem S1536x128 .bf16) (harg15 : arg15.IsWhole) (arg16 : Memref sig .tc .vmem S1536x384 .bf16) (harg16 : arg16.IsWhole) (arg17 : Memref sig .tc .vmem S1536x384 .bf16) (harg17 : arg17.IsWhole) (arg18 : Memref sig .tc .vmem S16x128 .bf16) (harg18 : arg18.IsWhole) (arg19 : Memref sig .tc .vmem S16x128 .bf16) (harg19 : arg19.IsWhole) (arg20 : Memref sig .tc .vmem S16x384 .bf16) (harg20 : arg20.IsWhole) (arg21 : Memref sig .tc .vmem S256x8192 .bf16) (harg21 : arg21.IsWhole)
    (x0 : Vec Ideal S1536x8192 .bf16) (x1 : Vec Ideal S1536x1 .i32) (x2 : Vec Ideal S128x8192 .fp8e4m3) (x3 : Vec Ideal S128x8192 .fp8e4m3) (x4 : Vec Ideal S384x8192 .fp8e4m3) (x5 : Vec Ideal S384x8192 .fp8e4m3) (x6 : Vec Ideal S128x256 .i8) (x7 : Vec Ideal S128x256 .i8) (x8 : Vec Ideal S384x256 .i8) (x9 : Vec Ideal S384x256 .i8) (x10 : Vec Ideal S4x128 .f32) (x11 : Vec Ideal S4x128 .f32) (x12 : Vec Ideal S4x384 .f32) (r : Fin 1536) (n : Fin 128) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 (ix2 r n)
      = actAt (fun r' => linB x0 x3 x7 n r') (x1 (ix2 r 0)) (fun j => x11 (ix2 j n)) r := by
  frame_out
  rw [readCov_of _ _ (pair (fun n k => x2 (ix2 n k)) (fun n q => x6 (ix2 n q)) (fun n k => x3 (ix2 n k)) (fun n q => x7 (ix2 n q))) _ ?_]
  · rw [act_k, act_apply, dist_apply]
    simp only [second_apply]
  · intro y
    refine canon_take 128 _ y _ (View.cover_of_tiledL _ ![128, 128] (by sl_kernel_rfl) y) ?_
    iterate 32
      refine step_second _ _ _ _ y x3 0 128 _ rfl (hi_bits _ _ (bits_k x7)) (fun n i k hi => congrArg (fun i => x3 (ix2 i k)) (Fin.ext (by omega))) (by decide) (by decide) rfl rfl rfl rfl ?_
    iterate 32
      refine step_second _ _ _ _ y x3 0 0 _ rfl (lo_bits _ _ (bits_k x7)) (fun n i k hi => congrArg (fun i => x3 (ix2 i k)) (Fin.ext (by omega))) (by decide) (by decide) rfl rfl rfl rfl ?_
    iterate 32
      refine step_first _ _ _ _ y x2 0 128 _ rfl (hi_bits _ _ (bits_q x6)) (fun n i k hi => congrArg (fun i => x2 (ix2 i k)) (Fin.ext (by omega))) (by decide) (by decide) rfl rfl rfl rfl ?_
    iterate 32
      refine step_first _ _ _ _ y x2 0 0 _ rfl (lo_bits _ _ (bits_q x6)) (fun n i k hi => congrArg (fun i => x2 (ix2 i k)) (Fin.ext (by omega))) (by decide) (by decide) rfl rfl rfl rfl ?_
    exact View.allAt_nil _ _

set_option maxHeartbeats 16000000 in
/-- The last rows of the queries' projection. -/
theorem out_q_tail (c : Dev nD) (i : grid0.Coords) (arg1 : Memref sig .tc .vmem S1536x8192 .bf16) (harg1 : arg1.IsWhole) (arg2 : Memref sig .tc .vmem S1536x1 .i32) (harg2 : arg2.IsWhole) (arg3 : Memref sig .tc .vmem S128x8192 .fp8e4m3) (harg3 : arg3.IsWhole) (arg4 : Memref sig .tc .vmem S128x8192 .fp8e4m3) (harg4 : arg4.IsWhole) (arg5 : Memref sig .tc .vmem S384x8192 .fp8e4m3) (harg5 : arg5.IsWhole) (arg6 : Memref sig .tc .vmem S384x8192 .fp8e4m3) (harg6 : arg6.IsWhole) (arg7 : Memref sig .tc .vmem S128x256 .i8) (harg7 : arg7.IsWhole) (arg8 : Memref sig .tc .vmem S128x256 .i8) (harg8 : arg8.IsWhole) (arg9 : Memref sig .tc .vmem S384x256 .i8) (harg9 : arg9.IsWhole) (arg10 : Memref sig .tc .vmem S384x256 .i8) (harg10 : arg10.IsWhole) (arg11 : Memref sig .tc .vmem S4x128 .f32) (harg11 : arg11.IsWhole) (arg12 : Memref sig .tc .vmem S4x128 .f32) (harg12 : arg12.IsWhole) (arg13 : Memref sig .tc .vmem S4x384 .f32) (harg13 : arg13.IsWhole) (arg14 : Memref sig .tc .vmem S1536x128 .bf16) (harg14 : arg14.IsWhole) (arg15 : Memref sig .tc .vmem S1536x128 .bf16) (harg15 : arg15.IsWhole) (arg16 : Memref sig .tc .vmem S1536x384 .bf16) (harg16 : arg16.IsWhole) (arg17 : Memref sig .tc .vmem S1536x384 .bf16) (harg17 : arg17.IsWhole) (arg18 : Memref sig .tc .vmem S16x128 .bf16) (harg18 : arg18.IsWhole) (arg19 : Memref sig .tc .vmem S16x128 .bf16) (harg19 : arg19.IsWhole) (arg20 : Memref sig .tc .vmem S16x384 .bf16) (harg20 : arg20.IsWhole) (arg21 : Memref sig .tc .vmem S256x8192 .bf16) (harg21 : arg21.IsWhole)
    (x0 : Vec Ideal S1536x8192 .bf16) (x1 : Vec Ideal S1536x1 .i32) (x2 : Vec Ideal S128x8192 .fp8e4m3) (x3 : Vec Ideal S128x8192 .fp8e4m3) (x4 : Vec Ideal S384x8192 .fp8e4m3) (x5 : Vec Ideal S384x8192 .fp8e4m3) (x6 : Vec Ideal S128x256 .i8) (x7 : Vec Ideal S128x256 .i8) (x8 : Vec Ideal S384x256 .i8) (x9 : Vec Ideal S384x256 .i8) (x10 : Vec Ideal S4x128 .f32) (x11 : Vec Ideal S4x128 .f32) (x12 : Vec Ideal S4x384 .f32) (r : Fin 16) (n : Fin 128) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 (ix2 r n)
      = linB x0 x2 x6 n (tailRow r) := by
  frame_out
  rw [readCov_of _ _ (pair (fun n k => x2 (ix2 n k)) (fun n q => x6 (ix2 n q)) (fun n k => x3 (ix2 n k)) (fun n q => x7 (ix2 n q))) _ ?_]
  · canon_tiles x h
    · exact tail_part_second (fun n r => linB x0 x2 x6 n r) _ 0 (by decide) (fun r b => (first_apply x0 _ _ _ _ r b).trans (congrArg (fun n => linB x0 x2 x6 n r) (Fin.ext (Nat.zero_add _).symm))) r n x h0 (h1.trans (Nat.zero_add _).symm)
    · exact tail_part_first (fun n r => linB x0 x2 x6 n r) _ 0 (by decide) (fun r b => (first_apply x0 _ _ _ _ r b).trans (congrArg (fun n => linB x0 x2 x6 n r) (Fin.ext (Nat.zero_add _).symm))) r n x h0 (h1.trans (Nat.zero_add _).symm)
  · intro y
    refine canon_take 128 _ y _ (View.cover_of_tiledL _ ![128, 128] (by sl_kernel_rfl) y) ?_
    iterate 32
      refine step_second _ _ _ _ y x3 0 128 _ rfl (hi_bits _ _ (bits_k x7)) (fun n i k hi => congrArg (fun i => x3 (ix2 i k)) (Fin.ext (by omega))) (by decide) (by decide) rfl rfl rfl rfl ?_
    iterate 32
      refine step_second _ _ _ _ y x3 0 0 _ rfl (lo_bits _ _ (bits_k x7)) (fun n i k hi => congrArg (fun i => x3 (ix2 i k)) (Fin.ext (by omega))) (by decide) (by decide) rfl rfl rfl rfl ?_
    iterate 32
      refine step_first _ _ _ _ y x2 0 128 _ rfl (hi_bits _ _ (bits_q x6)) (fun n i k hi => congrArg (fun i => x2 (ix2 i k)) (Fin.ext (by omega))) (by decide) (by decide) rfl rfl rfl rfl ?_
    iterate 32
      refine step_first _ _ _ _ y x2 0 0 _ rfl (lo_bits _ _ (bits_q x6)) (fun n i k hi => congrArg (fun i => x2 (ix2 i k)) (Fin.ext (by omega))) (by decide) (by decide) rfl rfl rfl rfl ?_
    exact View.allAt_nil _ _

set_option maxHeartbeats 16000000 in
/-- The last rows of the keys' projection. -/
theorem out_k_tail (c : Dev nD) (i : grid0.Coords) (arg1 : Memref sig .tc .vmem S1536x8192 .bf16) (harg1 : arg1.IsWhole) (arg2 : Memref sig .tc .vmem S1536x1 .i32) (harg2 : arg2.IsWhole) (arg3 : Memref sig .tc .vmem S128x8192 .fp8e4m3) (harg3 : arg3.IsWhole) (arg4 : Memref sig .tc .vmem S128x8192 .fp8e4m3) (harg4 : arg4.IsWhole) (arg5 : Memref sig .tc .vmem S384x8192 .fp8e4m3) (harg5 : arg5.IsWhole) (arg6 : Memref sig .tc .vmem S384x8192 .fp8e4m3) (harg6 : arg6.IsWhole) (arg7 : Memref sig .tc .vmem S128x256 .i8) (harg7 : arg7.IsWhole) (arg8 : Memref sig .tc .vmem S128x256 .i8) (harg8 : arg8.IsWhole) (arg9 : Memref sig .tc .vmem S384x256 .i8) (harg9 : arg9.IsWhole) (arg10 : Memref sig .tc .vmem S384x256 .i8) (harg10 : arg10.IsWhole) (arg11 : Memref sig .tc .vmem S4x128 .f32) (harg11 : arg11.IsWhole) (arg12 : Memref sig .tc .vmem S4x128 .f32) (harg12 : arg12.IsWhole) (arg13 : Memref sig .tc .vmem S4x384 .f32) (harg13 : arg13.IsWhole) (arg14 : Memref sig .tc .vmem S1536x128 .bf16) (harg14 : arg14.IsWhole) (arg15 : Memref sig .tc .vmem S1536x128 .bf16) (harg15 : arg15.IsWhole) (arg16 : Memref sig .tc .vmem S1536x384 .bf16) (harg16 : arg16.IsWhole) (arg17 : Memref sig .tc .vmem S1536x384 .bf16) (harg17 : arg17.IsWhole) (arg18 : Memref sig .tc .vmem S16x128 .bf16) (harg18 : arg18.IsWhole) (arg19 : Memref sig .tc .vmem S16x128 .bf16) (harg19 : arg19.IsWhole) (arg20 : Memref sig .tc .vmem S16x384 .bf16) (harg20 : arg20.IsWhole) (arg21 : Memref sig .tc .vmem S256x8192 .bf16) (harg21 : arg21.IsWhole)
    (x0 : Vec Ideal S1536x8192 .bf16) (x1 : Vec Ideal S1536x1 .i32) (x2 : Vec Ideal S128x8192 .fp8e4m3) (x3 : Vec Ideal S128x8192 .fp8e4m3) (x4 : Vec Ideal S384x8192 .fp8e4m3) (x5 : Vec Ideal S384x8192 .fp8e4m3) (x6 : Vec Ideal S128x256 .i8) (x7 : Vec Ideal S128x256 .i8) (x8 : Vec Ideal S384x256 .i8) (x9 : Vec Ideal S384x256 .i8) (x10 : Vec Ideal S4x128 .f32) (x11 : Vec Ideal S4x128 .f32) (x12 : Vec Ideal S4x384 .f32) (r : Fin 16) (n : Fin 128) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 (ix2 r n)
      = linB x0 x3 x7 n (tailRow r) := by
  frame_out
  rw [readCov_of _ _ (pair (fun n k => x2 (ix2 n k)) (fun n q => x6 (ix2 n q)) (fun n k => x3 (ix2 n k)) (fun n q => x7 (ix2 n q))) _ ?_]
  · canon_tiles x h
    · exact tail_part_second (fun n r => linB x0 x3 x7 n r) _ 0 (by decide) (fun r b => (second_apply x0 _ _ _ _ r b).trans (congrArg (fun n => linB x0 x3 x7 n r) (Fin.ext (Nat.zero_add _).symm))) r n x h0 (h1.trans (Nat.zero_add _).symm)
    · exact tail_part_first (fun n r => linB x0 x3 x7 n r) _ 0 (by decide) (fun r b => (second_apply x0 _ _ _ _ r b).trans (congrArg (fun n => linB x0 x3 x7 n r) (Fin.ext (Nat.zero_add _).symm))) r n x h0 (h1.trans (Nat.zero_add _).symm)
  · intro y
    refine canon_take 128 _ y _ (View.cover_of_tiledL _ ![128, 128] (by sl_kernel_rfl) y) ?_
    iterate 32
      refine step_second _ _ _ _ y x3 0 128 _ rfl (hi_bits _ _ (bits_k x7)) (fun n i k hi => congrArg (fun i => x3 (ix2 i k)) (Fin.ext (by omega))) (by decide) (by decide) rfl rfl rfl rfl ?_
    iterate 32
      refine step_second _ _ _ _ y x3 0 0 _ rfl (lo_bits _ _ (bits_k x7)) (fun n i k hi => congrArg (fun i => x3 (ix2 i k)) (Fin.ext (by omega))) (by decide) (by decide) rfl rfl rfl rfl ?_
    iterate 32
      refine step_first _ _ _ _ y x2 0 128 _ rfl (hi_bits _ _ (bits_q x6)) (fun n i k hi => congrArg (fun i => x2 (ix2 i k)) (Fin.ext (by omega))) (by decide) (by decide) rfl rfl rfl rfl ?_
    iterate 32
      refine step_first _ _ _ _ y x2 0 0 _ rfl (lo_bits _ _ (bits_q x6)) (fun n i k hi => congrArg (fun i => x2 (ix2 i k)) (Fin.ext (by omega))) (by decide) (by decide) rfl rfl rfl rfl ?_
    exact View.allAt_nil _ _

end Cert.ProjIdeal.Value
-- ==== Proof.ProjBlockV.lean ====
module

public import proofs.«01_k».proof.Proof.Gen.ProjIdeal.Frame
public import Idealize.ShloMosaic.Lib.Pipeline.ValueKit
public import proofs.«01_k».proof.Proof.ProjPart

@[expose] public section

set_option maxRecDepth 65536

noncomputable section

open Idealize.ShloMosaic Idealize.ShloMosaic.TcCoe Idealize.SL.Sem
open Idealize.ShloMosaic.Pipeline (Dat)

/-!
# What one head's run computes: values and gates

Their 384 columns come in three parts of 128.
-/

namespace Cert.ProjIdeal.Value
open Cert.ProjIdeal Cert.ProjIdeal.Gen

set_option maxHeartbeats 4000000 in
/-- The head's values. -/
theorem out_v (c : Dev nD) (i : grid0.Coords) (arg1 : Memref sig .tc .vmem S1536x8192 .bf16) (harg1 : arg1.IsWhole) (arg2 : Memref sig .tc .vmem S1536x1 .i32) (harg2 : arg2.IsWhole) (arg3 : Memref sig .tc .vmem S128x8192 .fp8e4m3) (harg3 : arg3.IsWhole) (arg4 : Memref sig .tc .vmem S128x8192 .fp8e4m3) (harg4 : arg4.IsWhole) (arg5 : Memref sig .tc .vmem S384x8192 .fp8e4m3) (harg5 : arg5.IsWhole) (arg6 : Memref sig .tc .vmem S384x8192 .fp8e4m3) (harg6 : arg6.IsWhole) (arg7 : Memref sig .tc .vmem S128x256 .i8) (harg7 : arg7.IsWhole) (arg8 : Memref sig .tc .vmem S128x256 .i8) (harg8 : arg8.IsWhole) (arg9 : Memref sig .tc .vmem S384x256 .i8) (harg9 : arg9.IsWhole) (arg10 : Memref sig .tc .vmem S384x256 .i8) (harg10 : arg10.IsWhole) (arg11 : Memref sig .tc .vmem S4x128 .f32) (harg11 : arg11.IsWhole) (arg12 : Memref sig .tc .vmem S4x128 .f32) (harg12 : arg12.IsWhole) (arg13 : Memref sig .tc .vmem S4x384 .f32) (harg13 : arg13.IsWhole) (arg14 : Memref sig .tc .vmem S1536x128 .bf16) (harg14 : arg14.IsWhole) (arg15 : Memref sig .tc .vmem S1536x128 .bf16) (harg15 : arg15.IsWhole) (arg16 : Memref sig .tc .vmem S1536x384 .bf16) (harg16 : arg16.IsWhole) (arg17 : Memref sig .tc .vmem S1536x384 .bf16) (harg17 : arg17.IsWhole) (arg18 : Memref sig .tc .vmem S16x128 .bf16) (harg18 : arg18.IsWhole) (arg19 : Memref sig .tc .vmem S16x128 .bf16) (harg19 : arg19.IsWhole) (arg20 : Memref sig .tc .vmem S16x384 .bf16) (harg20 : arg20.IsWhole) (arg21 : Memref sig .tc .vmem S256x8192 .bf16) (harg21 : arg21.IsWhole)
    (x0 : Vec Ideal S1536x8192 .bf16) (x1 : Vec Ideal S1536x1 .i32) (x2 : Vec Ideal S128x8192 .fp8e4m3) (x3 : Vec Ideal S128x8192 .fp8e4m3) (x4 : Vec Ideal S384x8192 .fp8e4m3) (x5 : Vec Ideal S384x8192 .fp8e4m3) (x6 : Vec Ideal S128x256 .i8) (x7 : Vec Ideal S128x256 .i8) (x8 : Vec Ideal S384x256 .i8) (x9 : Vec Ideal S384x256 .i8) (x10 : Vec Ideal S4x128 .f32) (x11 : Vec Ideal S4x128 .f32) (x12 : Vec Ideal S4x384 .f32) (r : Fin 1536) (n : Fin 384) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 (ix2 r n)
      = actAt (fun r' => linB x0 x4 x8 n r') (x1 (ix2 r 0)) (fun j => x12 (ix2 j n)) r := by
  frame_out
  rw [readCov_of _ _ (pair (rowsF x4 256 (by decide)) (rowsS x8 256 (by decide)) (rowsF x5 0 (by decide)) (rowsS x9 0 (by decide))) _ ?_, readCov_of _ _ (pair (rowsF x4 0 (by decide)) (rowsS x8 0 (by decide)) (rowsF x4 128 (by decide)) (rowsS x8 128 (by decide))) _ ?_]
  · canon_tiles x h
    · exact (congrFun (act_v2 _ _ _ _) x).trans (act_part (fun n r => linB x0 x4 x8 n r) _ 256 (by decide) x12 x1 (fun r b => first_apply x0 _ _ _ _ r b) ![0, 256] _ rfl rfl r n x h0 h1)
    · exact (congrFun (act_v1 _ _ _) x).trans (act_part (fun n r => linB x0 x4 x8 n r) _ 128 (by decide) x12 x1 (fun r b => second_apply x0 _ _ _ _ r b) ![0, 128] _ rfl rfl r n x h0 h1)
    · exact act_part (fun n r => linB x0 x4 x8 n r) _ 0 (by decide) x12 x1 (fun r b => first_apply x0 _ _ _ _ r b) ![0, 0] _ rfl rfl r n x h0 (h1.trans (Nat.zero_add _).symm)
  · intro y
    refine canon_take 128 _ y _ (View.cover_of_tiledL _ ![128, 128] (by sl_kernel_rfl) y) ?_
    iterate 32
      refine step_second _ _ _ _ y x4 128 128 _ rfl (hi_bits _ _ (bits_v1 x8)) (fun n i k hi => congrArg (fun i => x4 (ix2 i k)) (Fin.ext hi)) (by decide) (by decide) rfl rfl rfl rfl ?_
    iterate 32
      refine step_second _ _ _ _ y x4 128 0 _ rfl (lo_bits _ _ (bits_v1 x8)) (fun n i k hi => congrArg (fun i => x4 (ix2 i k)) (Fin.ext hi)) (by decide) (by decide) rfl rfl rfl rfl ?_
    iterate 32
      refine step_first _ _ _ _ y x4 0 128 _ rfl (hi_bits _ _ (bits_v0 x8)) (fun n i k hi => congrArg (fun i => x4 (ix2 i k)) (Fin.ext hi)) (by decide) (by decide) rfl rfl rfl rfl ?_
    iterate 32
      refine step_first _ _ _ _ y x4 0 0 _ rfl (lo_bits _ _ (bits_v0 x8)) (fun n i k hi => congrArg (fun i => x4 (ix2 i k)) (Fin.ext hi)) (by decide) (by decide) rfl rfl rfl rfl ?_
    exact View.allAt_nil _ _
  · intro y
    refine canon_take 128 _ y _ (View.cover_of_tiledL _ ![128, 128] (by sl_kernel_rfl) y) ?_
    iterate 32
      refine step_second _ _ _ _ y x5 0 128 _ rfl (hi_bits _ _ (bits_g0 x9)) (fun n i k hi => congrArg (fun i => x5 (ix2 i k)) (Fin.ext hi)) (by decide) (by decide) rfl rfl rfl rfl ?_
    iterate 32
      refine step_second _ _ _ _ y x5 0 0 _ rfl (lo_bits _ _ (bits_g0 x9)) (fun n i k hi => congrArg (fun i => x5 (ix2 i k)) (Fin.ext hi)) (by decide) (by decide) rfl rfl rfl rfl ?_
    iterate 32
      refine step_first _ _ _ _ y x4 256 128 _ rfl (hi_bits _ _ (bits_v2 x8)) (fun n i k hi => congrArg (fun i => x4 (ix2 i k)) (Fin.ext hi)) (by decide) (by decide) rfl rfl rfl rfl ?_
    iterate 32
      refine step_first _ _ _ _ y x4 256 0 _ rfl (lo_bits _ _ (bits_v2 x8)) (fun n i k hi => congrArg (fun i => x4 (ix2 i k)) (Fin.ext hi)) (by decide) (by decide) rfl rfl rfl rfl ?_
    exact View.allAt_nil _ _

set_option maxHeartbeats 4000000 in
/-- The head's gates. -/
theorem out_g (c : Dev nD) (i : grid0.Coords) (arg1 : Memref sig .tc .vmem S1536x8192 .bf16) (harg1 : arg1.IsWhole) (arg2 : Memref sig .tc .vmem S1536x1 .i32) (harg2 : arg2.IsWhole) (arg3 : Memref sig .tc .vmem S128x8192 .fp8e4m3) (harg3 : arg3.IsWhole) (arg4 : Memref sig .tc .vmem S128x8192 .fp8e4m3) (harg4 : arg4.IsWhole) (arg5 : Memref sig .tc .vmem S384x8192 .fp8e4m3) (harg5 : arg5.IsWhole) (arg6 : Memref sig .tc .vmem S384x8192 .fp8e4m3) (harg6 : arg6.IsWhole) (arg7 : Memref sig .tc .vmem S128x256 .i8) (harg7 : arg7.IsWhole) (arg8 : Memref sig .tc .vmem S128x256 .i8) (harg8 : arg8.IsWhole) (arg9 : Memref sig .tc .vmem S384x256 .i8) (harg9 : arg9.IsWhole) (arg10 : Memref sig .tc .vmem S384x256 .i8) (harg10 : arg10.IsWhole) (arg11 : Memref sig .tc .vmem S4x128 .f32) (harg11 : arg11.IsWhole) (arg12 : Memref sig .tc .vmem S4x128 .f32) (harg12 : arg12.IsWhole) (arg13 : Memref sig .tc .vmem S4x384 .f32) (harg13 : arg13.IsWhole) (arg14 : Memref sig .tc .vmem S1536x128 .bf16) (harg14 : arg14.IsWhole) (arg15 : Memref sig .tc .vmem S1536x128 .bf16) (harg15 : arg15.IsWhole) (arg16 : Memref sig .tc .vmem S1536x384 .bf16) (harg16 : arg16.IsWhole) (arg17 : Memref sig .tc .vmem S1536x384 .bf16) (harg17 : arg17.IsWhole) (arg18 : Memref sig .tc .vmem S16x128 .bf16) (harg18 : arg18.IsWhole) (arg19 : Memref sig .tc .vmem S16x128 .bf16) (harg19 : arg19.IsWhole) (arg20 : Memref sig .tc .vmem S16x384 .bf16) (harg20 : arg20.IsWhole) (arg21 : Memref sig .tc .vmem S256x8192 .bf16) (harg21 : arg21.IsWhole)
    (x0 : Vec Ideal S1536x8192 .bf16) (x1 : Vec Ideal S1536x1 .i32) (x2 : Vec Ideal S128x8192 .fp8e4m3) (x3 : Vec Ideal S128x8192 .fp8e4m3) (x4 : Vec Ideal S384x8192 .fp8e4m3) (x5 : Vec Ideal S384x8192 .fp8e4m3) (x6 : Vec Ideal S128x256 .i8) (x7 : Vec Ideal S128x256 .i8) (x8 : Vec Ideal S384x256 .i8) (x9 : Vec Ideal S384x256 .i8) (x10 : Vec Ideal S4x128 .f32) (x11 : Vec Ideal S4x128 .f32) (x12 : Vec Ideal S4x384 .f32) (r : Fin 1536) (n : Fin 384) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 (ix2 r n)
      = linB x0 x5 x9 n r := by
  frame_out
  rw [readCov_of _ _ (pair (rowsF x5 128 (by decide)) (rowsS x9 128 (by decide)) (rowsF x5 256 (by decide)) (rowsS x9 256 (by decide))) _ ?_, readCov_of _ _ (pair (rowsF x4 256 (by decide)) (rowsS x8 256 (by decide)) (rowsF x5 0 (by decide)) (rowsS x9 0 (by decide))) _ ?_]
  · canon_tiles x h
    · exact lin_part (fun n r => linB x0 x5 x9 n r) _ 256 (by decide) (fun r b => second_apply x0 _ _ _ _ r b) r n x h0 h1
    · exact lin_part (fun n r => linB x0 x5 x9 n r) _ 128 (by decide) (fun r b => first_apply x0 _ _ _ _ r b) r n x h0 h1
    · exact lin_part (fun n r => linB x0 x5 x9 n r) _ 0 (by decide) (fun r b => second_apply x0 _ _ _ _ r b) r n x h0 (h1.trans (Nat.zero_add _).symm)
  · intro y
    refine canon_take 128 _ y _ (View.cover_of_tiledL _ ![128, 128] (by sl_kernel_rfl) y) ?_
    iterate 32
      refine step_second _ _ _ _ y x5 0 128 _ rfl (hi_bits _ _ (bits_g0 x9)) (fun n i k hi => congrArg (fun i => x5 (ix2 i k)) (Fin.ext hi)) (by decide) (by decide) rfl rfl rfl rfl ?_
    iterate 32
      refine step_second _ _ _ _ y x5 0 0 _ rfl (lo_bits _ _ (bits_g0 x9)) (fun n i k hi => congrArg (fun i => x5 (ix2 i k)) (Fin.ext hi)) (by decide) (by decide) rfl rfl rfl rfl ?_
    iterate 32
      refine step_first _ _ _ _ y x4 256 128 _ rfl (hi_bits _ _ (bits_v2 x8)) (fun n i k hi => congrArg (fun i => x4 (ix2 i k)) (Fin.ext hi)) (by decide) (by decide) rfl rfl rfl rfl ?_
    iterate 32
      refine step_first _ _ _ _ y x4 256 0 _ rfl (lo_bits _ _ (bits_v2 x8)) (fun n i k hi => congrArg (fun i => x4 (ix2 i k)) (Fin.ext hi)) (by decide) (by decide) rfl rfl rfl rfl ?_
    exact View.allAt_nil _ _
  · intro y
    refine canon_take 128 _ y _ (View.cover_of_tiledL _ ![128, 128] (by sl_kernel_rfl) y) ?_
    iterate 32
      refine step_second _ _ _ _ y x5 256 128 _ rfl (hi_bits _ _ (bits_g2 x9)) (fun n i k hi => congrArg (fun i => x5 (ix2 i k)) (Fin.ext hi)) (by decide) (by decide) rfl rfl rfl rfl ?_
    iterate 32
      refine step_second _ _ _ _ y x5 256 0 _ rfl (lo_bits _ _ (bits_g2 x9)) (fun n i k hi => congrArg (fun i => x5 (ix2 i k)) (Fin.ext hi)) (by decide) (by decide) rfl rfl rfl rfl ?_
    iterate 32
      refine step_first _ _ _ _ y x5 128 128 _ rfl (hi_bits _ _ (bits_g1 x9)) (fun n i k hi => congrArg (fun i => x5 (ix2 i k)) (Fin.ext hi)) (by decide) (by decide) rfl rfl rfl rfl ?_
    iterate 32
      refine step_first _ _ _ _ y x5 128 0 _ rfl (lo_bits _ _ (bits_g1 x9)) (fun n i k hi => congrArg (fun i => x5 (ix2 i k)) (Fin.ext hi)) (by decide) (by decide) rfl rfl rfl rfl ?_
    exact View.allAt_nil _ _

set_option maxHeartbeats 4000000 in
/-- The last rows of the values' projection. -/
theorem out_v_tail (c : Dev nD) (i : grid0.Coords) (arg1 : Memref sig .tc .vmem S1536x8192 .bf16) (harg1 : arg1.IsWhole) (arg2 : Memref sig .tc .vmem S1536x1 .i32) (harg2 : arg2.IsWhole) (arg3 : Memref sig .tc .vmem S128x8192 .fp8e4m3) (harg3 : arg3.IsWhole) (arg4 : Memref sig .tc .vmem S128x8192 .fp8e4m3) (harg4 : arg4.IsWhole) (arg5 : Memref sig .tc .vmem S384x8192 .fp8e4m3) (harg5 : arg5.IsWhole) (arg6 : Memref sig .tc .vmem S384x8192 .fp8e4m3) (harg6 : arg6.IsWhole) (arg7 : Memref sig .tc .vmem S128x256 .i8) (harg7 : arg7.IsWhole) (arg8 : Memref sig .tc .vmem S128x256 .i8) (harg8 : arg8.IsWhole) (arg9 : Memref sig .tc .vmem S384x256 .i8) (harg9 : arg9.IsWhole) (arg10 : Memref sig .tc .vmem S384x256 .i8) (harg10 : arg10.IsWhole) (arg11 : Memref sig .tc .vmem S4x128 .f32) (harg11 : arg11.IsWhole) (arg12 : Memref sig .tc .vmem S4x128 .f32) (harg12 : arg12.IsWhole) (arg13 : Memref sig .tc .vmem S4x384 .f32) (harg13 : arg13.IsWhole) (arg14 : Memref sig .tc .vmem S1536x128 .bf16) (harg14 : arg14.IsWhole) (arg15 : Memref sig .tc .vmem S1536x128 .bf16) (harg15 : arg15.IsWhole) (arg16 : Memref sig .tc .vmem S1536x384 .bf16) (harg16 : arg16.IsWhole) (arg17 : Memref sig .tc .vmem S1536x384 .bf16) (harg17 : arg17.IsWhole) (arg18 : Memref sig .tc .vmem S16x128 .bf16) (harg18 : arg18.IsWhole) (arg19 : Memref sig .tc .vmem S16x128 .bf16) (harg19 : arg19.IsWhole) (arg20 : Memref sig .tc .vmem S16x384 .bf16) (harg20 : arg20.IsWhole) (arg21 : Memref sig .tc .vmem S256x8192 .bf16) (harg21 : arg21.IsWhole)
    (x0 : Vec Ideal S1536x8192 .bf16) (x1 : Vec Ideal S1536x1 .i32) (x2 : Vec Ideal S128x8192 .fp8e4m3) (x3 : Vec Ideal S128x8192 .fp8e4m3) (x4 : Vec Ideal S384x8192 .fp8e4m3) (x5 : Vec Ideal S384x8192 .fp8e4m3) (x6 : Vec Ideal S128x256 .i8) (x7 : Vec Ideal S128x256 .i8) (x8 : Vec Ideal S384x256 .i8) (x9 : Vec Ideal S384x256 .i8) (x10 : Vec Ideal S4x128 .f32) (x11 : Vec Ideal S4x128 .f32) (x12 : Vec Ideal S4x384 .f32) (r : Fin 16) (n : Fin 384) :
    out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 (ix2 r n)
      = linB x0 x4 x8 n (tailRow r) := by
  frame_out
  rw [readCov_of _ _ (pair (rowsF x4 256 (by decide)) (rowsS x8 256 (by decide)) (rowsF x5 0 (by decide)) (rowsS x9 0 (by decide))) _ ?_, readCov_of _ _ (pair (rowsF x4 0 (by decide)) (rowsS x8 0 (by decide)) (rowsF x4 128 (by decide)) (rowsS x8 128 (by decide))) _ ?_]
  · canon_tiles x h
    · exact tail_part_second (fun n r => linB x0 x4 x8 n r) _ 256 (by decide) (fun r b => first_apply x0 _ _ _ _ r b) r n x h0 h1
    · exact tail_part_first (fun n r => linB x0 x4 x8 n r) _ 256 (by decide) (fun r b => first_apply x0 _ _ _ _ r b) r n x h0 h1
    · exact tail_part_second (fun n r => linB x0 x4 x8 n r) _ 128 (by decide) (fun r b => second_apply x0 _ _ _ _ r b) r n x h0 h1
    · exact tail_part_first (fun n r => linB x0 x4 x8 n r) _ 128 (by decide) (fun r b => second_apply x0 _ _ _ _ r b) r n x h0 h1
    · exact tail_part_second (fun n r => linB x0 x4 x8 n r) _ 0 (by decide) (fun r b => first_apply x0 _ _ _ _ r b) r n x h0 (h1.trans (Nat.zero_add _).symm)
    · exact tail_part_first (fun n r => linB x0 x4 x8 n r) _ 0 (by decide) (fun r b => first_apply x0 _ _ _ _ r b) r n x h0 (h1.trans (Nat.zero_add _).symm)
  · intro y
    refine canon_take 128 _ y _ (View.cover_of_tiledL _ ![128, 128] (by sl_kernel_rfl) y) ?_
    iterate 32
      refine step_second _ _ _ _ y x4 128 128 _ rfl (hi_bits _ _ (bits_v1 x8)) (fun n i k hi => congrArg (fun i => x4 (ix2 i k)) (Fin.ext hi)) (by decide) (by decide) rfl rfl rfl rfl ?_
    iterate 32
      refine step_second _ _ _ _ y x4 128 0 _ rfl (lo_bits _ _ (bits_v1 x8)) (fun n i k hi => congrArg (fun i => x4 (ix2 i k)) (Fin.ext hi)) (by decide) (by decide) rfl rfl rfl rfl ?_
    iterate 32
      refine step_first _ _ _ _ y x4 0 128 _ rfl (hi_bits _ _ (bits_v0 x8)) (fun n i k hi => congrArg (fun i => x4 (ix2 i k)) (Fin.ext hi)) (by decide) (by decide) rfl rfl rfl rfl ?_
    iterate 32
      refine step_first _ _ _ _ y x4 0 0 _ rfl (lo_bits _ _ (bits_v0 x8)) (fun n i k hi => congrArg (fun i => x4 (ix2 i k)) (Fin.ext hi)) (by decide) (by decide) rfl rfl rfl rfl ?_
    exact View.allAt_nil _ _
  · intro y
    refine canon_take 128 _ y _ (View.cover_of_tiledL _ ![128, 128] (by sl_kernel_rfl) y) ?_
    iterate 32
      refine step_second _ _ _ _ y x5 0 128 _ rfl (hi_bits _ _ (bits_g0 x9)) (fun n i k hi => congrArg (fun i => x5 (ix2 i k)) (Fin.ext hi)) (by decide) (by decide) rfl rfl rfl rfl ?_
    iterate 32
      refine step_second _ _ _ _ y x5 0 0 _ rfl (lo_bits _ _ (bits_g0 x9)) (fun n i k hi => congrArg (fun i => x5 (ix2 i k)) (Fin.ext hi)) (by decide) (by decide) rfl rfl rfl rfl ?_
    iterate 32
      refine step_first _ _ _ _ y x4 256 128 _ rfl (hi_bits _ _ (bits_v2 x8)) (fun n i k hi => congrArg (fun i => x4 (ix2 i k)) (Fin.ext hi)) (by decide) (by decide) rfl rfl rfl rfl ?_
    iterate 32
      refine step_first _ _ _ _ y x4 256 0 _ rfl (lo_bits _ _ (bits_v2 x8)) (fun n i k hi => congrArg (fun i => x4 (ix2 i k)) (Fin.ext hi)) (by decide) (by decide) rfl rfl rfl rfl ?_
    exact View.allAt_nil _ _

end Cert.ProjIdeal.Value
-- ==== Proof.ProjFinal.lean ====
module

public import proofs.«01_k».proof.Proof.ProjArray
public import proofs.«01_k».proof.Proof.ProjBlock
public import proofs.«01_k».proof.Proof.ProjBlockV

@[expose] public section

set_option maxRecDepth 16384

noncomputable section

open Idealize.ShloMosaic Idealize.ShloMosaic.TcCoe Idealize.SL.Sem
open Idealize.ShloMosaic.Pipeline (Dat)

/-!
# What the result arrays of the projections hold after the run

Point `t` writes head `t`'s columns of every result, and the forty points write all columns.
-/

namespace Cert.ProjIdeal.Value
open Cert.ProjIdeal Cert.ProjIdeal.Gen

variable (m : (ℓ : Loc nD τ sig) → Buf (Elt Ideal) ℓ)

/-- Result 1 of point `t`, at an index. -/
theorem at13 (c : Dev nD) (t : Fin cfg0.N) (r : Fin 1536) (n : Fin 128) :
    ((outsAt0 m c t).1 : FVec Ideal S1536x128 .bf16) (ix2 r n) = actArr (N := 5120) (m ((c : Thread nD τ).loc main_arg0)) (m ((c : Thread nD τ).loc main_arg1)) (m ((c : Thread nD τ).loc main_arg2)) (m ((c : Thread nD τ).loc main_arg4)) (m ((c : Thread nD τ).loc main_arg10)) (ix2 r (colQ t n)) := by
  have h : ((outsAt0 m c t).1 : FVec Ideal S1536x128 .bf16) (ix2 r n)
      = actAt (fun r' => linB (iblk m c 0 t : FVec Ideal S1536x8192 .bf16) (iblk m c 2 t : FVec Ideal S128x8192 .fp8e4m3) (iblk m c 6 t : IVec S128x256 8) n r') ((iblk m c 1 t : IVec S1536x1 32) (ix2 r 0)) (fun j => (iblk m c 10 t : FVec Ideal S4x128 .f32) (ix2 j n)) r := by
    unfold outsAt0
    dsimp only
    exact out_q c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r n
  refine h.trans ?_
  show _ = actAt (fun r' => linF (N := 5120) (m ((c : Thread nD τ).loc main_arg0)) (m ((c : Thread nD τ).loc main_arg2)) (m ((c : Thread nD τ).loc main_arg4)) (colQ t n) r') (BitVec.ofNat 32 (tim r).val - ((m ((c : Thread nD τ).loc main_arg1)) : IVec S2x768 32) (ix2 (bat r) (tim r))) (fun j => ((m ((c : Thread nD τ).loc main_arg10)) : FVec Ideal S5120x4 .f32) (ix2 (colQ t n) j)) r
  refine (congrArg₂ (fun L d => actAt L d _ r) (funext fun r' => lin_blk_q m c t n r') (d_blk m c t r)).trans ?_
  exact congrArg (fun cv => actAt _ _ cv r) (funext fun j => ca_blk m c t j n)

theorem final13 (c : Dev nD) : (dats m 0 c).arrAt 13 (cfgs 0).N = actArr (N := 5120) (m ((c : Thread nD τ).loc main_arg0)) (m ((c : Thread nD τ).loc main_arg1)) (m ((c : Thread nD τ).loc main_arg2)) (m ((c : Thread nD τ).loc main_arg4)) (m ((c : Thread nD τ).loc main_arg10)) := by
  refine (dats m 0 c).arrAt_eq_of_covers 13 _ (by decide +kernel) fun t hf y => ?_
  obtain ⟨r, n, rfl⟩ : ∃ (r : Fin 1536) (n : Fin 128), y = ix2 r n := ⟨y 0, y 1, eq_ix2 y⟩
  have e : (win0_13.blk t).view.emb (ix2 r n) = (ix2 r (colQ t n) : S1536x5120.Idx) := by
    blk_ext [idx t]
  refine Eq.trans ?_ (congrArg (actArr (N := 5120) (m ((c : Thread nD τ).loc main_arg0)) (m ((c : Thread nD τ).loc main_arg1)) (m ((c : Thread nD τ).loc main_arg2)) (m ((c : Thread nD τ).loc main_arg4)) (m ((c : Thread nD τ).loc main_arg10))) e).symm
  blk_simp
  rw [after0_13]
  exact at13 m c t r n

/-- Result 2 of point `t`, at an index. -/
theorem at14 (c : Dev nD) (t : Fin cfg0.N) (r : Fin 1536) (n : Fin 128) :
    ((outsAt0 m c t).2.1 : FVec Ideal S1536x128 .bf16) (ix2 r n) = actArr (N := 5120) (m ((c : Thread nD τ).loc main_arg0)) (m ((c : Thread nD τ).loc main_arg1)) (m ((c : Thread nD τ).loc main_arg3)) (m ((c : Thread nD τ).loc main_arg5)) (m ((c : Thread nD τ).loc main_arg11)) (ix2 r (colQ t n)) := by
  have h : ((outsAt0 m c t).2.1 : FVec Ideal S1536x128 .bf16) (ix2 r n)
      = actAt (fun r' => linB (iblk m c 0 t : FVec Ideal S1536x8192 .bf16) (iblk m c 3 t : FVec Ideal S128x8192 .fp8e4m3) (iblk m c 7 t : IVec S128x256 8) n r') ((iblk m c 1 t : IVec S1536x1 32) (ix2 r 0)) (fun j => (iblk m c 11 t : FVec Ideal S4x128 .f32) (ix2 j n)) r := by
    unfold outsAt0
    dsimp only
    exact out_k c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r n
  refine h.trans ?_
  show _ = actAt (fun r' => linF (N := 5120) (m ((c : Thread nD τ).loc main_arg0)) (m ((c : Thread nD τ).loc main_arg3)) (m ((c : Thread nD τ).loc main_arg5)) (colQ t n) r') (BitVec.ofNat 32 (tim r).val - ((m ((c : Thread nD τ).loc main_arg1)) : IVec S2x768 32) (ix2 (bat r) (tim r))) (fun j => ((m ((c : Thread nD τ).loc main_arg11)) : FVec Ideal S5120x4 .f32) (ix2 (colQ t n) j)) r
  refine (congrArg₂ (fun L d => actAt L d _ r) (funext fun r' => lin_blk_k m c t n r') (d_blk m c t r)).trans ?_
  exact congrArg (fun cv => actAt _ _ cv r) (funext fun j => cb_blk m c t j n)

theorem final14 (c : Dev nD) : (dats m 0 c).arrAt 14 (cfgs 0).N = actArr (N := 5120) (m ((c : Thread nD τ).loc main_arg0)) (m ((c : Thread nD τ).loc main_arg1)) (m ((c : Thread nD τ).loc main_arg3)) (m ((c : Thread nD τ).loc main_arg5)) (m ((c : Thread nD τ).loc main_arg11)) := by
  refine (dats m 0 c).arrAt_eq_of_covers 14 _ (by decide +kernel) fun t hf y => ?_
  obtain ⟨r, n, rfl⟩ : ∃ (r : Fin 1536) (n : Fin 128), y = ix2 r n := ⟨y 0, y 1, eq_ix2 y⟩
  have e : (win0_14.blk t).view.emb (ix2 r n) = (ix2 r (colQ t n) : S1536x5120.Idx) := by
    blk_ext [idx t]
  refine Eq.trans ?_ (congrArg (actArr (N := 5120) (m ((c : Thread nD τ).loc main_arg0)) (m ((c : Thread nD τ).loc main_arg1)) (m ((c : Thread nD τ).loc main_arg3)) (m ((c : Thread nD τ).loc main_arg5)) (m ((c : Thread nD τ).loc main_arg11))) e).symm
  blk_simp
  rw [after0_14]
  exact at14 m c t r n

/-- Result 3 of point `t`, at an index. -/
theorem at15 (c : Dev nD) (t : Fin cfg0.N) (r : Fin 1536) (n : Fin 384) :
    ((outsAt0 m c t).2.2.1 : FVec Ideal S1536x384 .bf16) (ix2 r n) = actArr (N := 15360) (m ((c : Thread nD τ).loc main_arg0)) (m ((c : Thread nD τ).loc main_arg1)) (m ((c : Thread nD τ).loc main_arg6)) (m ((c : Thread nD τ).loc main_arg8)) (m ((c : Thread nD τ).loc main_arg12)) (ix2 r (colV t n)) := by
  have h : ((outsAt0 m c t).2.2.1 : FVec Ideal S1536x384 .bf16) (ix2 r n)
      = actAt (fun r' => linB (iblk m c 0 t : FVec Ideal S1536x8192 .bf16) (iblk m c 4 t : FVec Ideal S384x8192 .fp8e4m3) (iblk m c 8 t : IVec S384x256 8) n r') ((iblk m c 1 t : IVec S1536x1 32) (ix2 r 0)) (fun j => (iblk m c 12 t : FVec Ideal S4x384 .f32) (ix2 j n)) r := by
    unfold outsAt0
    dsimp only
    exact out_v c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r n
  refine h.trans ?_
  show _ = actAt (fun r' => linF (N := 15360) (m ((c : Thread nD τ).loc main_arg0)) (m ((c : Thread nD τ).loc main_arg6)) (m ((c : Thread nD τ).loc main_arg8)) (colV t n) r') (BitVec.ofNat 32 (tim r).val - ((m ((c : Thread nD τ).loc main_arg1)) : IVec S2x768 32) (ix2 (bat r) (tim r))) (fun j => ((m ((c : Thread nD τ).loc main_arg12)) : FVec Ideal S15360x4 .f32) (ix2 (colV t n) j)) r
  refine (congrArg₂ (fun L d => actAt L d _ r) (funext fun r' => lin_blk_v m c t n r') (d_blk m c t r)).trans ?_
  exact congrArg (fun cv => actAt _ _ cv r) (funext fun j => cc_blk m c t j n)

theorem final15 (c : Dev nD) : (dats m 0 c).arrAt 15 (cfgs 0).N = actArr (N := 15360) (m ((c : Thread nD τ).loc main_arg0)) (m ((c : Thread nD τ).loc main_arg1)) (m ((c : Thread nD τ).loc main_arg6)) (m ((c : Thread nD τ).loc main_arg8)) (m ((c : Thread nD τ).loc main_arg12)) := by
  refine (dats m 0 c).arrAt_eq_of_covers 15 _ (by decide +kernel) fun t hf y => ?_
  obtain ⟨r, n, rfl⟩ : ∃ (r : Fin 1536) (n : Fin 384), y = ix2 r n := ⟨y 0, y 1, eq_ix2 y⟩
  have e : (win0_15.blk t).view.emb (ix2 r n) = (ix2 r (colV t n) : S1536x15360.Idx) := by
    blk_ext [idx t]
  refine Eq.trans ?_ (congrArg (actArr (N := 15360) (m ((c : Thread nD τ).loc main_arg0)) (m ((c : Thread nD τ).loc main_arg1)) (m ((c : Thread nD τ).loc main_arg6)) (m ((c : Thread nD τ).loc main_arg8)) (m ((c : Thread nD τ).loc main_arg12))) e).symm
  blk_simp
  rw [after0_15]
  exact at15 m c t r n

/-- Result 4 of point `t`, at an index. -/
theorem at16 (c : Dev nD) (t : Fin cfg0.N) (r : Fin 1536) (n : Fin 384) :
    ((outsAt0 m c t).2.2.2.1 : FVec Ideal S1536x384 .bf16) (ix2 r n) = linArr (N := 15360) (m ((c : Thread nD τ).loc main_arg0)) (m ((c : Thread nD τ).loc main_arg7)) (m ((c : Thread nD τ).loc main_arg9)) (ix2 r (colV t n)) := by
  have h : ((outsAt0 m c t).2.2.2.1 : FVec Ideal S1536x384 .bf16) (ix2 r n)
      = linB (iblk m c 0 t : FVec Ideal S1536x8192 .bf16) (iblk m c 5 t : FVec Ideal S384x8192 .fp8e4m3) (iblk m c 9 t : IVec S384x256 8) n r := by
    unfold outsAt0
    dsimp only
    exact out_g c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r n
  refine h.trans ?_
  show _ = linF (N := 15360) (m ((c : Thread nD τ).loc main_arg0)) (m ((c : Thread nD τ).loc main_arg7)) (m ((c : Thread nD τ).loc main_arg9)) (colV t n) r
  exact lin_blk_g m c t n r

theorem final16 (c : Dev nD) : (dats m 0 c).arrAt 16 (cfgs 0).N = linArr (N := 15360) (m ((c : Thread nD τ).loc main_arg0)) (m ((c : Thread nD τ).loc main_arg7)) (m ((c : Thread nD τ).loc main_arg9)) := by
  refine (dats m 0 c).arrAt_eq_of_covers 16 _ (by decide +kernel) fun t hf y => ?_
  obtain ⟨r, n, rfl⟩ : ∃ (r : Fin 1536) (n : Fin 384), y = ix2 r n := ⟨y 0, y 1, eq_ix2 y⟩
  have e : (win0_16.blk t).view.emb (ix2 r n) = (ix2 r (colV t n) : S1536x15360.Idx) := by
    blk_ext [idx t]
  refine Eq.trans ?_ (congrArg (linArr (N := 15360) (m ((c : Thread nD τ).loc main_arg0)) (m ((c : Thread nD τ).loc main_arg7)) (m ((c : Thread nD τ).loc main_arg9))) e).symm
  blk_simp
  rw [after0_16]
  exact at16 m c t r n

/-- Result 5 of point `t`, at an index. -/
theorem at17 (c : Dev nD) (t : Fin cfg0.N) (r : Fin 16) (n : Fin 128) :
    ((outsAt0 m c t).2.2.2.2.1 : FVec Ideal S16x128 .bf16) (ix2 r n) = tailArr (N := 5120) (m ((c : Thread nD τ).loc main_arg0)) (m ((c : Thread nD τ).loc main_arg2)) (m ((c : Thread nD τ).loc main_arg4)) (ix2 r (colQ t n)) := by
  have h : ((outsAt0 m c t).2.2.2.2.1 : FVec Ideal S16x128 .bf16) (ix2 r n)
      = linB (iblk m c 0 t : FVec Ideal S1536x8192 .bf16) (iblk m c 2 t : FVec Ideal S128x8192 .fp8e4m3) (iblk m c 6 t : IVec S128x256 8) n (tailRow r) := by
    unfold outsAt0
    dsimp only
    exact out_q_tail c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r n
  refine h.trans ?_
  show _ = linF (N := 5120) (m ((c : Thread nD τ).loc main_arg0)) (m ((c : Thread nD τ).loc main_arg2)) (m ((c : Thread nD τ).loc main_arg4)) (colQ t n) (tailRow r)
  exact lin_blk_q m c t n (tailRow r)

theorem final17 (c : Dev nD) : (dats m 0 c).arrAt 17 (cfgs 0).N = tailArr (N := 5120) (m ((c : Thread nD τ).loc main_arg0)) (m ((c : Thread nD τ).loc main_arg2)) (m ((c : Thread nD τ).loc main_arg4)) := by
  refine (dats m 0 c).arrAt_eq_of_covers 17 _ (by decide +kernel) fun t hf y => ?_
  obtain ⟨r, n, rfl⟩ : ∃ (r : Fin 16) (n : Fin 128), y = ix2 r n := ⟨y 0, y 1, eq_ix2 y⟩
  have e : (win0_17.blk t).view.emb (ix2 r n) = (ix2 r (colQ t n) : S16x5120.Idx) := by
    blk_ext [idx t]
  refine Eq.trans ?_ (congrArg (tailArr (N := 5120) (m ((c : Thread nD τ).loc main_arg0)) (m ((c : Thread nD τ).loc main_arg2)) (m ((c : Thread nD τ).loc main_arg4))) e).symm
  blk_simp
  rw [after0_17]
  exact at17 m c t r n

/-- Result 6 of point `t`, at an index. -/
theorem at18 (c : Dev nD) (t : Fin cfg0.N) (r : Fin 16) (n : Fin 128) :
    ((outsAt0 m c t).2.2.2.2.2.1 : FVec Ideal S16x128 .bf16) (ix2 r n) = tailArr (N := 5120) (m ((c : Thread nD τ).loc main_arg0)) (m ((c : Thread nD τ).loc main_arg3)) (m ((c : Thread nD τ).loc main_arg5)) (ix2 r (colQ t n)) := by
  have h : ((outsAt0 m c t).2.2.2.2.2.1 : FVec Ideal S16x128 .bf16) (ix2 r n)
      = linB (iblk m c 0 t : FVec Ideal S1536x8192 .bf16) (iblk m c 3 t : FVec Ideal S128x8192 .fp8e4m3) (iblk m c 7 t : IVec S128x256 8) n (tailRow r) := by
    unfold outsAt0
    dsimp only
    exact out_k_tail c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r n
  refine h.trans ?_
  show _ = linF (N := 5120) (m ((c : Thread nD τ).loc main_arg0)) (m ((c : Thread nD τ).loc main_arg3)) (m ((c : Thread nD τ).loc main_arg5)) (colQ t n) (tailRow r)
  exact lin_blk_k m c t n (tailRow r)

theorem final18 (c : Dev nD) : (dats m 0 c).arrAt 18 (cfgs 0).N = tailArr (N := 5120) (m ((c : Thread nD τ).loc main_arg0)) (m ((c : Thread nD τ).loc main_arg3)) (m ((c : Thread nD τ).loc main_arg5)) := by
  refine (dats m 0 c).arrAt_eq_of_covers 18 _ (by decide +kernel) fun t hf y => ?_
  obtain ⟨r, n, rfl⟩ : ∃ (r : Fin 16) (n : Fin 128), y = ix2 r n := ⟨y 0, y 1, eq_ix2 y⟩
  have e : (win0_18.blk t).view.emb (ix2 r n) = (ix2 r (colQ t n) : S16x5120.Idx) := by
    blk_ext [idx t]
  refine Eq.trans ?_ (congrArg (tailArr (N := 5120) (m ((c : Thread nD τ).loc main_arg0)) (m ((c : Thread nD τ).loc main_arg3)) (m ((c : Thread nD τ).loc main_arg5))) e).symm
  blk_simp
  rw [after0_18]
  exact at18 m c t r n

/-- Result 7 of point `t`, at an index. -/
theorem at19 (c : Dev nD) (t : Fin cfg0.N) (r : Fin 16) (n : Fin 384) :
    ((outsAt0 m c t).2.2.2.2.2.2 : FVec Ideal S16x384 .bf16) (ix2 r n) = tailArr (N := 15360) (m ((c : Thread nD τ).loc main_arg0)) (m ((c : Thread nD τ).loc main_arg6)) (m ((c : Thread nD τ).loc main_arg8)) (ix2 r (colV t n)) := by
  have h : ((outsAt0 m c t).2.2.2.2.2.2 : FVec Ideal S16x384 .bf16) (ix2 r n)
      = linB (iblk m c 0 t : FVec Ideal S1536x8192 .bf16) (iblk m c 4 t : FVec Ideal S384x8192 .fp8e4m3) (iblk m c 8 t : IVec S384x256 8) n (tailRow r) := by
    unfold outsAt0
    dsimp only
    exact out_v_tail c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r n
  refine h.trans ?_
  show _ = linF (N := 15360) (m ((c : Thread nD τ).loc main_arg0)) (m ((c : Thread nD τ).loc main_arg6)) (m ((c : Thread nD τ).loc main_arg8)) (colV t n) (tailRow r)
  exact lin_blk_v m c t n (tailRow r)

theorem final19 (c : Dev nD) : (dats m 0 c).arrAt 19 (cfgs 0).N = tailArr (N := 15360) (m ((c : Thread nD τ).loc main_arg0)) (m ((c : Thread nD τ).loc main_arg6)) (m ((c : Thread nD τ).loc main_arg8)) := by
  refine (dats m 0 c).arrAt_eq_of_covers 19 _ (by decide +kernel) fun t hf y => ?_
  obtain ⟨r, n, rfl⟩ : ∃ (r : Fin 16) (n : Fin 384), y = ix2 r n := ⟨y 0, y 1, eq_ix2 y⟩
  have e : (win0_19.blk t).view.emb (ix2 r n) = (ix2 r (colV t n) : S16x15360.Idx) := by
    blk_ext [idx t]
  refine Eq.trans ?_ (congrArg (tailArr (N := 15360) (m ((c : Thread nD τ).loc main_arg0)) (m ((c : Thread nD τ).loc main_arg6)) (m ((c : Thread nD τ).loc main_arg8))) e).symm
  blk_simp
  rw [after0_19]
  exact at19 m c t r n

end Cert.ProjIdeal.Value
-- ==== Proof.ProjEnds.lean ====
module

public import proofs.«01_k».proof.Proof.Gen.ProjIdeal.Frame
public import proofs.«01_k».proof.Proof.ProjEquation
public import proofs.«01_k».proof.Proof.ProjFinal
public import Idealize.ShloMosaic.Lib.Claim

@[expose] public section

set_option maxRecDepth 16384

noncomputable section

open Idealize.ShloMosaic Idealize.ShloMosaic.TcCoe Idealize.SL.Sem

/-!
# The results after the host's reshapes

The host takes the rows of each array apart into batches and times, and cuts the last three times out of the tails. What
the seven results then hold is the reference's value of the arguments.
-/

namespace Cert.ProjIdeal.Value
open Cert.ProjIdeal Cert.ProjIdeal.Gen

variable (m : (ℓ : Loc nD τ sig) → Buf (Elt Ideal) ℓ)

/-- What buffer `b` holds at the end. -/
abbrev ends (c : Dev nD) (b : Ref sig .tc) : Buf (Elt Ideal) ((c : Thread nD τ).loc b) :=
  Pipeline.afterTail₀ cfgs (dats m) 0 (V0 m) [hostOps1] c b

/-- The device's buffers when the host goes on after the last point. -/
abbrev mid (c : Dev nD) : Valuation τ sig (Elt Ideal) :=
  Pipeline.withArrays spec0 c (V0 m c) fun w => (dats m 0 c).arrAt w (cfgs 0).N

/-! What the host makes of an array. -/

section
variable (W : Valuation τ sig (Elt Ideal))

theorem host_v10 : (StableHlo.after hostOps1 W (Proc.devRef .tc main_v10) : FVec Ideal S2x768x5120 .bf16)
    = shapeCast S2x768x5120 (W (Proc.devRef .tc main_v9_0) : FVec Ideal S1536x5120 .bf16) shapeCasts_S1536x5120_S2x768x5120 := by
  rfl

theorem host_v11 : (StableHlo.after hostOps1 W (Proc.devRef .tc main_v11) : FVec Ideal S2x768x5120 .bf16)
    = shapeCast S2x768x5120 (W (Proc.devRef .tc main_v9_1) : FVec Ideal S1536x5120 .bf16) shapeCasts_S1536x5120_S2x768x5120 := by
  rfl

theorem host_v12 : (StableHlo.after hostOps1 W (Proc.devRef .tc main_v12) : FVec Ideal S2x768x15360 .bf16)
    = shapeCast S2x768x15360 (W (Proc.devRef .tc main_v9_2) : FVec Ideal S1536x15360 .bf16) shapeCasts_S1536x15360_S2x768x15360 := by
  rfl

theorem host_v13 : (StableHlo.after hostOps1 W (Proc.devRef .tc main_v13) : FVec Ideal S2x768x15360 .bf16)
    = shapeCast S2x768x15360 (W (Proc.devRef .tc main_v9_3) : FVec Ideal S1536x15360 .bf16) shapeCasts_S1536x15360_S2x768x15360 := by
  rfl

theorem host_v15 : (StableHlo.after hostOps1 W (Proc.devRef .tc main_v15) : FVec Ideal S2x3x5120 .bf16)
    = extractStridedSlice S2x3x5120 ![0, 5, 0] (shapeCast S2x8x5120 (W (Proc.devRef .tc main_v9_4) : FVec Ideal S16x5120 .bf16) shapeCasts_S16x5120_S2x8x5120)
      slices_S2x8x5120_S2x3x5120_0_5_0 := by
  rfl

theorem host_v17 : (StableHlo.after hostOps1 W (Proc.devRef .tc main_v17) : FVec Ideal S2x3x5120 .bf16)
    = extractStridedSlice S2x3x5120 ![0, 5, 0] (shapeCast S2x8x5120 (W (Proc.devRef .tc main_v9_5) : FVec Ideal S16x5120 .bf16) shapeCasts_S16x5120_S2x8x5120)
      slices_S2x8x5120_S2x3x5120_0_5_0 := by
  rfl

theorem host_v19 : (StableHlo.after hostOps1 W (Proc.devRef .tc main_v19) : FVec Ideal S2x3x15360 .bf16)
    = extractStridedSlice S2x3x15360 ![0, 5, 0] (shapeCast S2x8x15360 (W (Proc.devRef .tc main_v9_6) : FVec Ideal S16x15360 .bf16) shapeCasts_S16x15360_S2x8x15360)
      slices_S2x8x15360_S2x3x15360_0_5_0 := by
  rfl

end

/-- The array of window `w` when the host goes on. -/
theorem mid_arr (c : Dev nD) (w : Fin 20) : mid m c (Proc.devRef .tc (Pipeline.arrRef spec0 w)) = (dats m 0 c).arrAt w (cfgs 0).N :=
  Pipeline.withArrays_arr spec0 launch0.win.arr_inj c (V0 m c) (fun w => (dats m 0 c).arrAt w (cfgs 0).N) w

section
variable (c : Dev nD) (h : Cert.Pre_project_ok.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) = fun _ => 1#1)
include h

theorem ends_v10 : (ends m c main_v10 : FVec Ideal S2x768x5120 .bf16) = Cert.ProjReferenceIdeal.Value.G13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have d := Cert.ProjEquation.decode _ _ _ _ _ _ _ _ _ _ _ _ _ h
  have e : (mid m c (Proc.devRef .tc main_v9_0) : FVec Ideal S1536x5120 .bf16) = _ := (mid_arr m c 13).trans (final13 m c)
  refine (host_v10 (mid m c)).trans ?_
  rw [e]
  exact Cert.ProjEquation.q_eq _ _ _ _ _ _ _ _ _ _ _ _ _ d.1 d.2.2.2.2 _

theorem ends_v11 : (ends m c main_v11 : FVec Ideal S2x768x5120 .bf16) = Cert.ProjReferenceIdeal.Value.G14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have d := Cert.ProjEquation.decode _ _ _ _ _ _ _ _ _ _ _ _ _ h
  have e : (mid m c (Proc.devRef .tc main_v9_1) : FVec Ideal S1536x5120 .bf16) = _ := (mid_arr m c 14).trans (final14 m c)
  refine (host_v11 (mid m c)).trans ?_
  rw [e]
  exact Cert.ProjEquation.k_eq _ _ _ _ _ _ _ _ _ _ _ _ _ d.2.1 d.2.2.2.2 _

theorem ends_v12 : (ends m c main_v12 : FVec Ideal S2x768x15360 .bf16) = Cert.ProjReferenceIdeal.Value.G15 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have d := Cert.ProjEquation.decode _ _ _ _ _ _ _ _ _ _ _ _ _ h
  have e : (mid m c (Proc.devRef .tc main_v9_2) : FVec Ideal S1536x15360 .bf16) = _ := (mid_arr m c 15).trans (final15 m c)
  refine (host_v12 (mid m c)).trans ?_
  rw [e]
  exact Cert.ProjEquation.v_eq _ _ _ _ _ _ _ _ _ _ _ _ _ d.2.2.1 d.2.2.2.2 _

theorem ends_v13 : (ends m c main_v13 : FVec Ideal S2x768x15360 .bf16) = Cert.ProjReferenceIdeal.Value.G16 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have d := Cert.ProjEquation.decode _ _ _ _ _ _ _ _ _ _ _ _ _ h
  have e : (mid m c (Proc.devRef .tc main_v9_3) : FVec Ideal S1536x15360 .bf16) = _ := (mid_arr m c 16).trans (final16 m c)
  refine (host_v13 (mid m c)).trans ?_
  rw [e]
  exact Cert.ProjEquation.g_eq _ _ _ _ _ _ _ _ _ _ _ _ _ d.2.2.2.1 _

theorem ends_v15 : (ends m c main_v15 : FVec Ideal S2x3x5120 .bf16) = Cert.ProjReferenceIdeal.Value.G17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have d := Cert.ProjEquation.decode _ _ _ _ _ _ _ _ _ _ _ _ _ h
  have e : (mid m c (Proc.devRef .tc main_v9_4) : FVec Ideal S16x5120 .bf16) = _ := (mid_arr m c 17).trans (final17 m c)
  refine (host_v15 (mid m c)).trans ?_
  rw [e]
  exact Cert.ProjEquation.q_tail_eq _ _ _ _ _ _ _ _ _ _ _ _ _ d.1 _ _

theorem ends_v17 : (ends m c main_v17 : FVec Ideal S2x3x5120 .bf16) = Cert.ProjReferenceIdeal.Value.G18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have d := Cert.ProjEquation.decode _ _ _ _ _ _ _ _ _ _ _ _ _ h
  have e : (mid m c (Proc.devRef .tc main_v9_5) : FVec Ideal S16x5120 .bf16) = _ := (mid_arr m c 18).trans (final18 m c)
  refine (host_v17 (mid m c)).trans ?_
  rw [e]
  exact Cert.ProjEquation.k_tail_eq _ _ _ _ _ _ _ _ _ _ _ _ _ d.2.1 _ _

theorem ends_v19 : (ends m c main_v19 : FVec Ideal S2x3x15360 .bf16) = Cert.ProjReferenceIdeal.Value.G19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have d := Cert.ProjEquation.decode _ _ _ _ _ _ _ _ _ _ _ _ _ h
  have e : (mid m c (Proc.devRef .tc main_v9_6) : FVec Ideal S16x15360 .bf16) = _ := (mid_arr m c 19).trans (final19 m c)
  refine (host_v19 (mid m c)).trans ?_
  rw [e]
  exact Cert.ProjEquation.v_tail_eq _ _ _ _ _ _ _ _ _ _ _ _ _ d.2.2.1 _ _

end

end Cert.ProjIdeal.Value
-- ==== Proof.lean ====
module

public import proofs.«01_k».proof.Proof.Equation
public import proofs.«01_k».proof.Proof.ProjEnds
public import proofs.«01_k».proof.Defs
public import proofs.«01_k».proof.Proof.Gen.Kernel.Frame
public import proofs.«01_k».proof.Proof.Gen.Proj.Frame

@[expose] public section

set_option maxRecDepth 65536

open Idealize.ShloMosaic Idealize.ShloMosaic.TcCoe Idealize.SL.Sem

/-!
# The claim

The frames are the generated ones, the idealized kernels are the kernels' own texts, and each value claim is read off the
two runs and the equation between them.
-/

/-- The output projection and its reference end with equal results. -/
theorem Cert.Proof.output : Cert.algebraic_KernelIdeal_ReferenceIdeal_pre_scales_ok (hKernelIdeal := Cert.KernelIdeal.Gen.facts)
    (hReferenceIdeal := Cert.ReferenceIdeal.Gen.facts) (hPre_scales_ok := Cert.Equation.preFacts) := by
  pair_intro
  · run_from Cert.KernelIdeal.Value.run_blocks m g
  · run_from Cert.ReferenceIdeal.Value.run m' g'
    exact ((Cert.KernelIdeal.Value.final m c).trans
      (Cert.Equation.equal _ _ _ (Cert.Equation.scales_range _ _ _ (hpre c)))).symm

set_option maxHeartbeats 8000000 in
/-- The four projections with their convolutions, and their reference, end with equal results. -/
theorem Cert.Proof.projections : Cert.algebraic_ProjIdeal_ProjReferenceIdeal_pre_project_ok (hProjIdeal := Cert.ProjIdeal.Gen.facts)
    (hProjReferenceIdeal := Cert.ProjReferenceIdeal.Gen.facts) (hPre_project_ok := Cert.ProjEquation.preFacts) := by
  pair_intro
  · run_from Cert.ProjIdeal.Gen.run_main m g
    · exact Cert.ProjIdeal.Gen.W_main_arg0 m (Cert.ProjIdeal.Gen.dats m) c
    · exact Cert.ProjIdeal.Gen.W_main_arg1 m (Cert.ProjIdeal.Gen.dats m) c
    · exact Cert.ProjIdeal.Gen.W_main_arg10 m (Cert.ProjIdeal.Gen.dats m) c
    · exact Cert.ProjIdeal.Gen.W_main_arg11 m (Cert.ProjIdeal.Gen.dats m) c
    · exact Cert.ProjIdeal.Gen.W_main_arg12 m (Cert.ProjIdeal.Gen.dats m) c
  · run_from Cert.ProjReferenceIdeal.Value.run m' g'
    · exact (Cert.ProjIdeal.Value.ends_v10 m c (hpre c)).symm
    · exact (Cert.ProjIdeal.Value.ends_v11 m c (hpre c)).symm
    · exact (Cert.ProjIdeal.Value.ends_v12 m c (hpre c)).symm
    · exact (Cert.ProjIdeal.Value.ends_v13 m c (hpre c)).symm
    · exact (Cert.ProjIdeal.Value.ends_v15 m c (hpre c)).symm
    · exact (Cert.ProjIdeal.Value.ends_v17 m c (hpre c)).symm
    · exact (Cert.ProjIdeal.Value.ends_v19 m c (hpre c)).symm

theorem Cert.Proof.claim : Cert.Claim :=
  ⟨Cert.Kernel.Gen.facts, Cert.KernelIdeal.Gen.facts, Cert.ReferenceIdeal.Gen.facts, Cert.Proj.Gen.facts,
    Cert.ProjIdeal.Gen.facts, Cert.ProjReferenceIdeal.Gen.facts, Cert.Equation.preFacts, Cert.ProjEquation.preFacts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, fun m ρ _ => Cert.Proj.Gen.frame m ρ,
    fun m ρ _ => Cert.ProjIdeal.Gen.frame m ρ, fun m ρ _ => Cert.ProjIdeal.Gen.frame m ρ,
    fun m ρ _ => Cert.ProjReferenceIdeal.Gen.frame m ρ, fun m ρ _ => Cert.ProjReferenceIdeal.Gen.frame m ρ,
    trivial, Cert.Proof.output, trivial, Cert.Proof.projections⟩
